-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp" .f32 0x3F8020CD#32 (((16760439 / 16777216)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_v336) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x32x32 : Shape := ⟨4, ![16, 32, 32, 32]⟩
abbrev S32x32 : Shape := ⟨2, ![32, 32]⟩
abbrev S4x8192x32 : Shape := ⟨3, ![4, 8192, 32]⟩
abbrev S16384x32 : Shape := ⟨2, ![16384, 32]⟩
abbrev S16384x4 : Shape := ⟨2, ![16384, 4]⟩
abbrev S512x32 : Shape := ⟨2, ![512, 32]⟩
abbrev S512x4 : Shape := ⟨2, ![512, 4]⟩
abbrev S8x128 : Shape := ⟨2, ![8, 128]⟩
abbrev S512x1024 : Shape := ⟨2, ![512, 1024]⟩
abbrev S512x8192 : Shape := ⟨2, ![512, 8192]⟩
abbrev S1x8192x32 : Shape := ⟨3, ![1, 8192, 32]⟩
abbrev S8192x32 : Shape := ⟨2, ![8192, 32]⟩
abbrev S8192 : Shape := ⟨1, ![8192]⟩
abbrev S512 : Shape := ⟨1, ![512]⟩
abbrev S512x1 : Shape := ⟨2, ![512, 1]⟩
abbrev S1024x32 : Shape := ⟨2, ![1024, 32]⟩
abbrev S1024 : Shape := ⟨1, ![1024]⟩
abbrev S1x1024 : Shape := ⟨2, ![1, 1024]⟩
abbrev S4x16384 : Shape := ⟨2, ![4, 16384]⟩
abbrev S_ : Shape := ⟨0, ![]⟩
abbrev S65536 : Shape := ⟨1, ![65536]⟩

abbrev nBuf : Space → Nat
  | .hbm => 42
  | .vmem => 9
  | .smem => 0
  | _ => 0

abbrev bufTy : (tb : Table) → Fin (tcTables nBuf tb) → BufTy
  | .hbm, ⟨0, _⟩ => ⟨S16x32x32x32, .f32⟩
  | .hbm, ⟨1, _⟩ => ⟨S32x32, .f32⟩
  | .hbm, ⟨2, _⟩ => ⟨S4x8192x32, .f32⟩
  | .hbm, ⟨3, _⟩ => ⟨S16x32x32x32, .f32⟩
  | .hbm, ⟨4, _⟩ => ⟨S16384x32, .f32⟩
  | .hbm, ⟨5, _⟩ => ⟨S16384x32, .f32⟩
  | .hbm, ⟨6, _⟩ => ⟨S16384x4, .i32⟩
  | .hbm, ⟨7, _⟩ => ⟨S16x32x32x32, .f32⟩
  | .hbm, ⟨8, _⟩ => ⟨S4x16384, .i32⟩
  | .hbm, ⟨9, _⟩ => ⟨S16x32x32x32, .f32⟩
  | .hbm, ⟨10, _⟩ => ⟨S16x32x32x32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x32x32x32, .f32⟩
  | .hbm, ⟨18, _⟩ => ⟨S16x32x32x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536, .i32⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x32x32x32, .f32⟩
  | .hbm, ⟨41, _⟩ => ⟨S16x32x32x32, .f32⟩
  | .local _ .vmem, ⟨0, _⟩ => ⟨S512x32, .f32⟩
  | .local _ .vmem, ⟨1, _⟩ => ⟨S512x32, .f32⟩
  | .local _ .vmem, ⟨2, _⟩ => ⟨S32x32, .f32⟩
  | .local _ .vmem, ⟨3, _⟩ => ⟨S4x8192x32, .f32⟩
  | .local _ .vmem, ⟨4, _⟩ => ⟨S512x32, .f32⟩
  | .local _ .vmem, ⟨5, _⟩ => ⟨S512x32, .f32⟩
  | .local _ .vmem, ⟨6, _⟩ => ⟨S512x4, .i32⟩
  | .local _ .vmem, ⟨7, _⟩ => ⟨S512x4, .i32⟩
  | .local _ .vmem, ⟨8, _⟩ => ⟨S8x128, .f32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_temp" => some (((16760439 / 16777216)⁻¹ : ℝ) : EReal)
  | _ => none
-- ==== ReferenceIdeal.lean ====
abbrev S16x32x32x32 : Shape := ⟨4, ![16, 32, 32, 32]⟩
abbrev S32x32 : Shape := ⟨2, ![32, 32]⟩
abbrev S4x8192x32 : Shape := ⟨3, ![4, 8192, 32]⟩
abbrev S4x2 : Shape := ⟨2, ![4, 2]⟩
abbrev S16384x32 : Shape := ⟨2, ![16384, 32]⟩
abbrev S134217728 : Shape := ⟨1, ![134217728]⟩
abbrev S16384x8192 : Shape := ⟨2, ![16384, 8192]⟩
abbrev S4x1 : Shape := ⟨2, ![4, 1]⟩
abbrev S4 : Shape := ⟨1, ![4]⟩
abbrev S4x1x1 : Shape := ⟨3, ![4, 1, 1]⟩
abbrev S_ : Shape := ⟨0, ![]⟩
abbrev S4x16384x8192 : Shape := ⟨3, ![4, 16384, 8192]⟩
abbrev S1x16384x8192 : Shape := ⟨3, ![1, 16384, 8192]⟩
abbrev S1x8192x32 : Shape := ⟨3, ![1, 8192, 32]⟩
abbrev S8192x32 : Shape := ⟨2, ![8192, 32]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S32x8192 : Shape := ⟨2, ![32, 8192]⟩
abbrev S1x16384x32 : Shape := ⟨3, ![1, 16384, 32]⟩
abbrev S4x16384x32 : Shape := ⟨3, ![4, 16384, 32]⟩
abbrev S65536 : Shape := ⟨1, ![65536]⟩
abbrev S1x16384 : Shape := ⟨2, ![1, 16384]⟩
abbrev S4x16384 : Shape := ⟨2, ![4, 16384]⟩

abbrev nBuf : Space → Nat
  | .hbm => 437
  | .vmem => 0
  | .smem => 0
  | _ => 0

abbrev hbmTy0_0 (i : Nat) : BufTy := match i % 128 with
  | 0 => ⟨S16x32x32x32, .f32⟩
  | 1 => ⟨S32x32, .f32⟩
  | 2 => ⟨S4x8192x32, .f32⟩
  | 3 => ⟨S4x2, .i32⟩
  | 4 => ⟨S16x32x32x32, .f32⟩
  | 5 => ⟨S16384x32, .f32⟩
  | 6 => ⟨S16384x32, .f32⟩
  | 7 => ⟨S134217728, .i32⟩
  | 8 => ⟨S16384x8192, .i32⟩
  | 9 => ⟨S4x1, .i32⟩
  | 10 => ⟨S4, .i32⟩
  | 11 => ⟨S4x1x1, .i32⟩
  | 12 => ⟨S4x1, .i32⟩
  | 13 => ⟨S4, .i32⟩
  | 14 => ⟨S4x1x1, .i32⟩
  | 15 => ⟨S4x1x1, .i32⟩
  | 16 => ⟨S_, .i32⟩
  | 17 => ⟨S4x1x1, .i32⟩
  | 18 => ⟨S4x1x1, .i32⟩
  | 19 => ⟨S4x16384x8192, .i32⟩
  | 20 => ⟨S1x16384x8192, .i32⟩
  | 21 => ⟨S4x16384x8192, .i32⟩
  | 22 => ⟨S4x16384x8192, .i32⟩
  | 23 => ⟨S4x16384x8192, .i32⟩
  | 24 => ⟨S4x16384x8192, .i32⟩
  | 25 => ⟨S_, .i32⟩
  | 26 => ⟨S4x16384x8192, .i32⟩
  | 27 => ⟨S4x16384x8192, .i32⟩
  | 28 => ⟨S_, .i32⟩
  | 29 => ⟨S4x16384x8192, .i32⟩
  | 30 => ⟨S4x16384x8192, .i32⟩
  | 31 => ⟨S4x16384x8192, .i32⟩
  | 32 => ⟨S4x16384x8192, .i32⟩
  | 33 => ⟨S4x16384x8192, .i32⟩
  | 34 => ⟨S_, .i32⟩
  | 35 => ⟨S4x16384x8192, .i32⟩
  | 36 => ⟨S4x16384x8192, .i32⟩
  | 37 => ⟨S_, .i32⟩
  | 38 => ⟨S4x16384x8192, .i32⟩
  | 39 => ⟨S4x16384x8192, .i32⟩
  | 40 => ⟨S4x16384x8192, .i32⟩
  | 41 => ⟨S4x16384x8192, .i32⟩
  | 42 => ⟨S4x16384x8192, .i32⟩
  | 43 => ⟨S_, .i32⟩
  | 44 => ⟨S4x16384x8192, .i32⟩
  | 45 => ⟨S4x16384x8192, .i32⟩
  | 46 => ⟨S_, .i32⟩
  | 47 => ⟨S4x16384x8192, .i32⟩
  | 48 => ⟨S4x16384x8192, .i32⟩
  | 49 => ⟨S4x16384x8192, .i32⟩
  | 50 => ⟨S4x16384x8192, .i32⟩
  | 51 => ⟨S4x16384x8192, .i32⟩
  | 52 => ⟨S_, .i32⟩
  | 53 => ⟨S4x16384x8192, .i32⟩
  | 54 => ⟨S4x16384x8192, .i32⟩
  | 55 => ⟨S_, .i32⟩
  | 56 => ⟨S4x16384x8192, .i32⟩
  | 57 => ⟨S4x16384x8192, .i32⟩
  | 58 => ⟨S4x16384x8192, .i32⟩
  | 59 => ⟨S4x16384x8192, .i32⟩
  | 60 => ⟨S4x16384x8192, .i32⟩
  | 61 => ⟨S4x16384x8192, .i32⟩
  | 62 => ⟨S_, .i32⟩
  | 63 => ⟨S4x1x1, .i32⟩
  | 64 => ⟨S4x1x1, .i32⟩
  | 65 => ⟨S4x16384x8192, .i32⟩
  | 66 => ⟨S4x16384x8192, .i32⟩
  | 67 => ⟨S4x16384x8192, .i32⟩
  | 68 => ⟨S_, .i32⟩
  | 69 => ⟨S4x16384x8192, .i32⟩
  | 70 => ⟨S4x16384x8192, .i32⟩
  | 71 => ⟨S_, .i32⟩
  | 72 => ⟨S4x16384x8192, .i32⟩
  | 73 => ⟨S4x16384x8192, .i32⟩
  | 74 => ⟨S4x16384x8192, .i32⟩
  | 75 => ⟨S4x16384x8192, .i32⟩
  | 76 => ⟨S4x16384x8192, .i32⟩
  | 77 => ⟨S_, .i32⟩
  | 78 => ⟨S4x16384x8192, .i32⟩
  | 79 => ⟨S4x16384x8192, .i32⟩
  | 80 => ⟨S_, .i32⟩
  | 81 => ⟨S4x16384x8192, .i32⟩
  | 82 => ⟨S4x16384x8192, .i32⟩
  | 83 => ⟨S4x16384x8192, .i32⟩
  | 84 => ⟨S4x16384x8192, .i32⟩
  | 85 => ⟨S4x16384x8192, .i32⟩
  | 86 => ⟨S_, .i32⟩
  | 87 => ⟨S4x16384x8192, .i32⟩
  | 88 => ⟨S4x16384x8192, .i32⟩
  | 89 => ⟨S_, .i32⟩
  | 90 => ⟨S4x16384x8192, .i32⟩
  | 91 => ⟨S4x16384x8192, .i32⟩
  | 92 => ⟨S4x16384x8192, .i32⟩
  | 93 => ⟨S4x16384x8192, .i32⟩
  | 94 => ⟨S4x16384x8192, .i32⟩
  | 95 => ⟨S_, .i32⟩
  | 96 => ⟨S4x16384x8192, .i32⟩
  | 97 => ⟨S4x16384x8192, .i32⟩
  | 98 => ⟨S_, .i32⟩
  | 99 => ⟨S4x16384x8192, .i32⟩
  | 100 => ⟨S4x16384x8192, .i32⟩
  | 101 => ⟨S4x16384x8192, .i32⟩
  | 102 => ⟨S4x16384x8192, .i32⟩
  | 103 => ⟨S4x16384x8192, .i32⟩
  | 104 => ⟨S4x16384x8192, .i32⟩
  | 105 => ⟨S_, .i32⟩
  | 106 => ⟨S4x1x1, .i32⟩
  | 107 => ⟨S4x1x1, .i32⟩
  | 108 => ⟨S4x16384x8192, .i32⟩
  | 109 => ⟨S4x16384x8192, .i32⟩
  | 110 => ⟨S4x16384x8192, .i32⟩
  | 111 => ⟨S_, .i32⟩
  | 112 => ⟨S4x16384x8192, .i32⟩
  | 113 => ⟨S4x16384x8192, .i32⟩
  | 114 => ⟨S_, .i32⟩
  | 115 => ⟨S4x16384x8192, .i32⟩
  | 116 => ⟨S4x16384x8192, .i32⟩
  | 117 => ⟨S4x16384x8192, .i32⟩
  | 118 => ⟨S4x16384x8192, .i32⟩
  | 119 => ⟨S4x16384x8192, .i32⟩
  | 120 => ⟨S_, .i32⟩
  | 121 => ⟨S4x16384x8192, .i32⟩
  | 122 => ⟨S4x16384x8192, .i32⟩
  | 123 => ⟨S_, .i32⟩
  | 124 => ⟨S4x16384x8192, .i32⟩
  | 125 => ⟨S4x16384x8192, .i32⟩
  | 126 => ⟨S4x16384x8192, .i32⟩
  | 127 => ⟨S4x16384x8192, .i32⟩
  | _ => ⟨S16x32x32x32, .f32⟩

abbrev hbmTy0_1 (i : Nat) : BufTy := match i % 128 with
  | 0 => ⟨S4x16384x8192, .i32⟩
  | 1 => ⟨S_, .i32⟩
  | 2 => ⟨S4x16384x8192, .i32⟩
  | 3 => ⟨S4x16384x8192, .i32⟩
  | 4 => ⟨S_, .i32⟩
  | 5 => ⟨S4x16384x8192, .i32⟩
  | 6 => ⟨S4x16384x8192, .i32⟩
  | 7 => ⟨S4x16384x8192, .i32⟩
  | 8 => ⟨S4x16384x8192, .i32⟩
  | 9 => ⟨S4x16384x8192, .i32⟩
  | 10 => ⟨S_, .i32⟩
  | 11 => ⟨S4x16384x8192, .i32⟩
  | 12 => ⟨S4x16384x8192, .i32⟩
  | 13 => ⟨S_, .i32⟩
  | 14 => ⟨S4x16384x8192, .i32⟩
  | 15 => ⟨S4x16384x8192, .i32⟩
  | 16 => ⟨S4x16384x8192, .i32⟩
  | 17 => ⟨S4x16384x8192, .i32⟩
  | 18 => ⟨S4x16384x8192, .i32⟩
  | 19 => ⟨S4x16384x8192, .i32⟩
  | 20 => ⟨S_, .i32⟩
  | 21 => ⟨S4x1x1, .i32⟩
  | 22 => ⟨S4x1x1, .i32⟩
  | 23 => ⟨S4x16384x8192, .i32⟩
  | 24 => ⟨S4x16384x8192, .i32⟩
  | 25 => ⟨S4x16384x8192, .i32⟩
  | 26 => ⟨S_, .i32⟩
  | 27 => ⟨S4x16384x8192, .i32⟩
  | 28 => ⟨S4x16384x8192, .i32⟩
  | 29 => ⟨S_, .i32⟩
  | 30 => ⟨S4x16384x8192, .i32⟩
  | 31 => ⟨S4x16384x8192, .i32⟩
  | 32 => ⟨S4x16384x8192, .i32⟩
  | 33 => ⟨S4x16384x8192, .i32⟩
  | 34 => ⟨S4x16384x8192, .i32⟩
  | 35 => ⟨S_, .i32⟩
  | 36 => ⟨S4x16384x8192, .i32⟩
  | 37 => ⟨S4x16384x8192, .i32⟩
  | 38 => ⟨S_, .i32⟩
  | 39 => ⟨S4x16384x8192, .i32⟩
  | 40 => ⟨S4x16384x8192, .i32⟩
  | 41 => ⟨S4x16384x8192, .i32⟩
  | 42 => ⟨S4x16384x8192, .i32⟩
  | 43 => ⟨S4x16384x8192, .i32⟩
  | 44 => ⟨S_, .i32⟩
  | 45 => ⟨S4x16384x8192, .i32⟩
  | 46 => ⟨S4x16384x8192, .i32⟩
  | 47 => ⟨S_, .i32⟩
  | 48 => ⟨S4x16384x8192, .i32⟩
  | 49 => ⟨S4x16384x8192, .i32⟩
  | 50 => ⟨S4x16384x8192, .i32⟩
  | 51 => ⟨S4x16384x8192, .i32⟩
  | 52 => ⟨S4x16384x8192, .i32⟩
  | 53 => ⟨S_, .i32⟩
  | 54 => ⟨S4x16384x8192, .i32⟩
  | 55 => ⟨S4x16384x8192, .i32⟩
  | 56 => ⟨S_, .i32⟩
  | 57 => ⟨S4x16384x8192, .i32⟩
  | 58 => ⟨S4x16384x8192, .i32⟩
  | 59 => ⟨S4x16384x8192, .i32⟩
  | 60 => ⟨S4x16384x8192, .i32⟩
  | 61 => ⟨S4x16384x8192, .i32⟩
  | 62 => ⟨S4x16384x8192, .i32⟩
  | 63 => ⟨S_, .i32⟩
  | 64 => ⟨S4x1x1, .i32⟩
  | 65 => ⟨S4x1x1, .i32⟩
  | 66 => ⟨S4x16384x8192, .i32⟩
  | 67 => ⟨S4x16384x8192, .i32⟩
  | 68 => ⟨S4x16384x8192, .i32⟩
  | 69 => ⟨S_, .i32⟩
  | 70 => ⟨S4x16384x8192, .i32⟩
  | 71 => ⟨S4x16384x8192, .i32⟩
  | 72 => ⟨S_, .i32⟩
  | 73 => ⟨S4x16384x8192, .i32⟩
  | 74 => ⟨S4x16384x8192, .i32⟩
  | 75 => ⟨S4x16384x8192, .i32⟩
  | 76 => ⟨S4x16384x8192, .i32⟩
  | 77 => ⟨S4x16384x8192, .i32⟩
  | 78 => ⟨S_, .i32⟩
  | 79 => ⟨S4x16384x8192, .i32⟩
  | 80 => ⟨S4x16384x8192, .i32⟩
  | 81 => ⟨S_, .i32⟩
  | 82 => ⟨S4x16384x8192, .i32⟩
  | 83 => ⟨S4x16384x8192, .i32⟩
  | 84 => ⟨S4x16384x8192, .i32⟩
  | 85 => ⟨S4x16384x8192, .i32⟩
  | 86 => ⟨S4x16384x8192, .i32⟩
  | 87 => ⟨S_, .i32⟩
  | 88 => ⟨S4x16384x8192, .i32⟩
  | 89 => ⟨S4x16384x8192, .i32⟩
  | 90 => ⟨S_, .i32⟩
  | 91 => ⟨S4x16384x8192, .i32⟩
  | 92 => ⟨S4x16384x8192, .i32⟩
  | 93 => ⟨S4x16384x8192, .i32⟩
  | 94 => ⟨S4x16384x8192, .i32⟩
  | 95 => ⟨S4x16384x8192, .i32⟩
  | 96 => ⟨S_, .i32⟩
  | 97 => ⟨S4x16384x8192, .i32⟩
  | 98 => ⟨S4x16384x8192, .i32⟩
  | 99 => ⟨S_, .i32⟩
  | 100 => ⟨S4x16384x8192, .i32⟩
  | 101 => ⟨S4x16384x8192, .i32⟩
  | 102 => ⟨S4x16384x8192, .i32⟩
  | 103 => ⟨S4x16384x8192, .i32⟩
  | 104 => ⟨S4x16384x8192, .i32⟩
  | 105 => ⟨S4x16384x8192, .i32⟩
  | 106 => ⟨S_, .i32⟩
  | 107 => ⟨S4x1x1, .i32⟩
  | 108 => ⟨S4x1x1, .i32⟩
  | 109 => ⟨S4x16384x8192, .i32⟩
  | 110 => ⟨S4x16384x8192, .i32⟩
  | 111 => ⟨S4x16384x8192, .i32⟩
  | 112 => ⟨S_, .i32⟩
  | 113 => ⟨S4x16384x8192, .i32⟩
  | 114 => ⟨S4x16384x8192, .i32⟩
  | 115 => ⟨S4x16384x8192, .i32⟩
  | 116 => ⟨S4x16384x8192, .f32⟩
  | 117 => ⟨S_, .f32⟩
  | 118 => ⟨S4x16384x8192, .f32⟩
  | 119 => ⟨S4x16384x8192, .f32⟩
  | 120 => ⟨S_, .f32⟩
  | 121 => ⟨S4x16384x8192, .f32⟩
  | 122 => ⟨S4x16384x8192, .f32⟩
  | 123 => ⟨S4x16384x8192, .f32⟩
  | 124 => ⟨S4x16384x8192, .f32⟩
  | 125 => ⟨S4x16384x8192, .f32⟩
  | 126 => ⟨S4x16384x8192, .f32⟩
  | 127 => ⟨S1x8192x32, .f32⟩
  | _ => ⟨S16x32x32x32, .f32⟩

abbrev hbmTy0_2 (i : Nat) : BufTy := match i % 128 with
  | 0 => ⟨S8192x32, .f32⟩
  | 1 => ⟨S16384x32, .f32⟩
  | 2 => ⟨S_, .f32⟩
  | 3 => ⟨S16384, .f32⟩
  | 4 => ⟨S16384x1, .f32⟩
  | 5 => ⟨S8192x32, .f32⟩
  | 6 => ⟨S_, .f32⟩
  | 7 => ⟨S8192, .f32⟩
  | 8 => ⟨S1x8192, .f32⟩
  | 9 => ⟨S16384x8192, .f32⟩
  | 10 => ⟨S16384x8192, .f32⟩
  | 11 => ⟨S16384x8192, .f32⟩
  | 12 => ⟨S_, .f32⟩
  | 13 => ⟨S16384x32, .f32⟩
  | 14 => ⟨S16384x32, .f32⟩
  | 15 => ⟨S32x8192, .f32⟩
  | 16 => ⟨S16384x8192, .f32⟩
  | 17 => ⟨S16384x8192, .f32⟩
  | 18 => ⟨S16384x8192, .f32⟩
  | 19 => ⟨S_, .f32⟩
  | 20 => ⟨S16384x8192, .f32⟩
  | 21 => ⟨S16384x8192, .f32⟩
  | 22 => ⟨S1x16384x8192, .f32⟩
  | 23 => ⟨S16384x8192, .f32⟩
  | 24 => ⟨S16384x8192, .f32⟩
  | 25 => ⟨S16384x8192, .i32⟩
  | 26 => ⟨S_, .f32⟩
  | 27 => ⟨S_, .i32⟩
  | 28 => ⟨S16384, .f32⟩
  | 29 => ⟨S16384, .i32⟩
  | 30 => ⟨S16384x1, .i32⟩
  | 31 => ⟨S16384x32, .f32⟩
  | 32 => ⟨S16384x32, .f32⟩
  | 33 => ⟨S1x8192x32, .f32⟩
  | 34 => ⟨S8192x32, .f32⟩
  | 35 => ⟨S16384x32, .f32⟩
  | 36 => ⟨S_, .f32⟩
  | 37 => ⟨S16384, .f32⟩
  | 38 => ⟨S16384x1, .f32⟩
  | 39 => ⟨S8192x32, .f32⟩
  | 40 => ⟨S_, .f32⟩
  | 41 => ⟨S8192, .f32⟩
  | 42 => ⟨S1x8192, .f32⟩
  | 43 => ⟨S16384x8192, .f32⟩
  | 44 => ⟨S16384x8192, .f32⟩
  | 45 => ⟨S16384x8192, .f32⟩
  | 46 => ⟨S_, .f32⟩
  | 47 => ⟨S16384x32, .f32⟩
  | 48 => ⟨S16384x32, .f32⟩
  | 49 => ⟨S32x8192, .f32⟩
  | 50 => ⟨S16384x8192, .f32⟩
  | 51 => ⟨S16384x8192, .f32⟩
  | 52 => ⟨S16384x8192, .f32⟩
  | 53 => ⟨S_, .f32⟩
  | 54 => ⟨S16384x8192, .f32⟩
  | 55 => ⟨S16384x8192, .f32⟩
  | 56 => ⟨S1x16384x8192, .f32⟩
  | 57 => ⟨S16384x8192, .f32⟩
  | 58 => ⟨S16384x8192, .f32⟩
  | 59 => ⟨S16384x8192, .i32⟩
  | 60 => ⟨S_, .f32⟩
  | 61 => ⟨S_, .i32⟩
  | 62 => ⟨S16384, .f32⟩
  | 63 => ⟨S16384, .i32⟩
  | 64 => ⟨S16384x1, .i32⟩
  | 65 => ⟨S16384x32, .f32⟩
  | 66 => ⟨S16384x32, .f32⟩
  | 67 => ⟨S1x8192x32, .f32⟩
  | 68 => ⟨S8192x32, .f32⟩
  | 69 => ⟨S16384x32, .f32⟩
  | 70 => ⟨S_, .f32⟩
  | 71 => ⟨S16384, .f32⟩
  | 72 => ⟨S16384x1, .f32⟩
  | 73 => ⟨S8192x32, .f32⟩
  | 74 => ⟨S_, .f32⟩
  | 75 => ⟨S8192, .f32⟩
  | 76 => ⟨S1x8192, .f32⟩
  | 77 => ⟨S16384x8192, .f32⟩
  | 78 => ⟨S16384x8192, .f32⟩
  | 79 => ⟨S16384x8192, .f32⟩
  | 80 => ⟨S_, .f32⟩
  | 81 => ⟨S16384x32, .f32⟩
  | 82 => ⟨S16384x32, .f32⟩
  | 83 => ⟨S32x8192, .f32⟩
  | 84 => ⟨S16384x8192, .f32⟩
  | 85 => ⟨S16384x8192, .f32⟩
  | 86 => ⟨S16384x8192, .f32⟩
  | 87 => ⟨S_, .f32⟩
  | 88 => ⟨S16384x8192, .f32⟩
  | 89 => ⟨S16384x8192, .f32⟩
  | 90 => ⟨S1x16384x8192, .f32⟩
  | 91 => ⟨S16384x8192, .f32⟩
  | 92 => ⟨S16384x8192, .f32⟩
  | 93 => ⟨S16384x8192, .i32⟩
  | 94 => ⟨S_, .f32⟩
  | 95 => ⟨S_, .i32⟩
  | 96 => ⟨S16384, .f32⟩
  | 97 => ⟨S16384, .i32⟩
  | 98 => ⟨S16384x1, .i32⟩
  | 99 => ⟨S16384x32, .f32⟩
  | 100 => ⟨S16384x32, .f32⟩
  | 101 => ⟨S1x8192x32, .f32⟩
  | 102 => ⟨S8192x32, .f32⟩
  | 103 => ⟨S16384x32, .f32⟩
  | 104 => ⟨S_, .f32⟩
  | 105 => ⟨S16384, .f32⟩
  | 106 => ⟨S16384x1, .f32⟩
  | 107 => ⟨S8192x32, .f32⟩
  | 108 => ⟨S_, .f32⟩
  | 109 => ⟨S8192, .f32⟩
  | 110 => ⟨S1x8192, .f32⟩
  | 111 => ⟨S16384x8192, .f32⟩
  | 112 => ⟨S16384x8192, .f32⟩
  | 113 => ⟨S16384x8192, .f32⟩
  | 114 => ⟨S_, .f32⟩
  | 115 => ⟨S16384x32, .f32⟩
  | 116 => ⟨S16384x32, .f32⟩
  | 117 => ⟨S32x8192, .f32⟩
  | 118 => ⟨S16384x8192, .f32⟩
  | 119 => ⟨S16384x8192, .f32⟩
  | 120 => ⟨S16384x8192, .f32⟩
  | 121 => ⟨S_, .f32⟩
  | 122 => ⟨S16384x8192, .f32⟩
  | 123 => ⟨S16384x8192, .f32⟩
  | 124 => ⟨S1x16384x8192, .f32⟩
  | 125 => ⟨S16384x8192, .f32⟩
  | 126 => ⟨S16384x8192, .f32⟩
  | 127 => ⟨S16384x8192, .i32⟩
  | _ => ⟨S16x32x32x32, .f32⟩

abbrev hbmTy0_3 (i : Nat) : BufTy := match i % 128 with
  | 0 => ⟨S_, .f32⟩
  | 1 => ⟨S_, .i32⟩
  | 2 => ⟨S16384, .f32⟩
  | 3 => ⟨S16384, .i32⟩
  | 4 => ⟨S16384x1, .i32⟩
  | 5 => ⟨S16384x32, .f32⟩
  | 6 => ⟨S16384x32, .f32⟩
  | 7 => ⟨S1x16384x32, .f32⟩
  | 8 => ⟨S1x16384x32, .f32⟩
  | 9 => ⟨S1x16384x32, .f32⟩
  | 10 => ⟨S1x16384x32, .f32⟩
  | 11 => ⟨S4x16384x32, .f32⟩
  | 12 => ⟨S_, .f32⟩
  | 13 => ⟨S16384x32, .f32⟩
  | 14 => ⟨S16x32x32x32, .f32⟩
  | 15 => ⟨S16x32x32x32, .f32⟩
  | 16 => ⟨S16x32x32x32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16x32x32x32, .f32⟩
  | 24 => ⟨S16x32x32x32, .f32⟩
  | 25 => ⟨S_, .f32⟩
  | 26 => ⟨S_, .f32⟩
  | 27 => ⟨S_, .f32⟩
  | 28 => ⟨S_, .f32⟩
  | 29 => ⟨S65536, .i32⟩
  | 30 => ⟨S65536, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S16x32x32x32, .f32⟩
  | 47 => ⟨S16x32x32x32, .f32⟩
  | 48 => ⟨S1x16384, .i32⟩
  | 49 => ⟨S1x16384, .i32⟩
  | 50 => ⟨S1x16384, .i32⟩
  | 51 => ⟨S1x16384, .i32⟩
  | 52 => ⟨S4x16384, .i32⟩
  | _ => ⟨S16x32x32x32, .f32⟩

abbrev hbmTy (i : Nat) : BufTy := match i / 128 with
  | 0 => hbmTy0_0 i
  | 1 => hbmTy0_1 i
  | 2 => hbmTy0_2 i
  | 3 => hbmTy0_3 i
  | _ => ⟨S16x32x32x32, .f32⟩

abbrev bufTy : (tb : Table) → Fin (tcTables nBuf tb) → BufTy
  | .hbm, ⟨i, _⟩ => hbmTy i
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_7 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_10 : Ref sig .tc := ⟨.hbm, 68, rfl⟩
abbrev main_v54 : Ref sig .tc := ⟨.hbm, 69, rfl⟩
abbrev main_v55 : Ref sig .tc := ⟨.hbm, 70, rfl⟩
abbrev main_c_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_12 : Ref sig .tc := ⟨.hbm, 77, rfl⟩
abbrev main_v61 : Ref sig .tc := ⟨.hbm, 78, rfl⟩
abbrev main_v62 : Ref sig .tc := ⟨.hbm, 79, rfl⟩
abbrev main_c_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_14 : Ref sig .tc := ⟨.hbm, 86, rfl⟩
abbrev main_v68 : Ref sig .tc := ⟨.hbm, 87, rfl⟩
abbrev main_v69 : Ref sig .tc := ⟨.hbm, 88, rfl⟩
abbrev main_c_15 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_16 : Ref sig .tc := ⟨.hbm, 95, rfl⟩
abbrev main_v75 : Ref sig .tc := ⟨.hbm, 96, rfl⟩
abbrev main_v76 : Ref sig .tc := ⟨.hbm, 97, rfl⟩
abbrev main_c_17 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c_18 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_19 : Ref sig .tc := ⟨.hbm, 111, rfl⟩
abbrev main_v88 : Ref sig .tc := ⟨.hbm, 112, rfl⟩
abbrev main_v89 : Ref sig .tc := ⟨.hbm, 113, rfl⟩
abbrev main_c_20 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_c_21 : Ref sig .tc := ⟨.hbm, 120, rfl⟩
abbrev main_v95 : Ref sig .tc := ⟨.hbm, 121, rfl⟩
abbrev main_v96 : Ref sig .tc := ⟨.hbm, 122, rfl⟩
abbrev main_c_22 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_23 : Ref sig .tc := ⟨.hbm, 129, rfl⟩
abbrev main_v102 : Ref sig .tc := ⟨.hbm, 130, rfl⟩
abbrev main_v103 : Ref sig .tc := ⟨.hbm, 131, rfl⟩
abbrev main_c_24 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_25 : Ref sig .tc := ⟨.hbm, 138, rfl⟩
abbrev main_v109 : Ref sig .tc := ⟨.hbm, 139, rfl⟩
abbrev main_v110 : Ref sig .tc := ⟨.hbm, 140, rfl⟩
abbrev main_c_26 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_27 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_c_28 : Ref sig .tc := ⟨.hbm, 154, rfl⟩
abbrev main_v122 : Ref sig .tc := ⟨.hbm, 155, rfl⟩
abbrev main_v123 : Ref sig .tc := ⟨.hbm, 156, rfl⟩
abbrev main_c_29 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_c_30 : Ref sig .tc := ⟨.hbm, 163, rfl⟩
abbrev main_v129 : Ref sig .tc := ⟨.hbm, 164, rfl⟩
abbrev main_v130 : Ref sig .tc := ⟨.hbm, 165, rfl⟩
abbrev main_c_31 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_c_32 : Ref sig .tc := ⟨.hbm, 172, rfl⟩
abbrev main_v136 : Ref sig .tc := ⟨.hbm, 173, rfl⟩
abbrev main_v137 : Ref sig .tc := ⟨.hbm, 174, rfl⟩
abbrev main_c_33 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_34 : Ref sig .tc := ⟨.hbm, 181, rfl⟩
abbrev main_v143 : Ref sig .tc := ⟨.hbm, 182, rfl⟩
abbrev main_v144 : Ref sig .tc := ⟨.hbm, 183, rfl⟩
abbrev main_c_35 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_c_36 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_37 : Ref sig .tc := ⟨.hbm, 197, rfl⟩
abbrev main_v156 : Ref sig .tc := ⟨.hbm, 198, rfl⟩
abbrev main_v157 : Ref sig .tc := ⟨.hbm, 199, rfl⟩
abbrev main_c_38 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_c_39 : Ref sig .tc := ⟨.hbm, 206, rfl⟩
abbrev main_v163 : Ref sig .tc := ⟨.hbm, 207, rfl⟩
abbrev main_v164 : Ref sig .tc := ⟨.hbm, 208, rfl⟩
abbrev main_c_40 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_c_41 : Ref sig .tc := ⟨.hbm, 215, rfl⟩
abbrev main_v170 : Ref sig .tc := ⟨.hbm, 216, rfl⟩
abbrev main_v171 : Ref sig .tc := ⟨.hbm, 217, rfl⟩
abbrev main_c_42 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_c_43 : Ref sig .tc := ⟨.hbm, 224, rfl⟩
abbrev main_v177 : Ref sig .tc := ⟨.hbm, 225, rfl⟩
abbrev main_v178 : Ref sig .tc := ⟨.hbm, 226, rfl⟩
abbrev main_c_44 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_c_45 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_46 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_cst : Ref sig .tc := ⟨.hbm, 245, rfl⟩
abbrev main_v194 : Ref sig .tc := ⟨.hbm, 246, rfl⟩
abbrev main_v195 : Ref sig .tc := ⟨.hbm, 247, rfl⟩
abbrev main_cst_47 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_48 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_49 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_50 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_51 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_call0_v0 : Ref sig .tc := ⟨.hbm, 281, rfl⟩
abbrev main_call0_cst : Ref sig .tc := ⟨.hbm, 282, rfl⟩
abbrev main_call0_c : Ref sig .tc := ⟨.hbm, 283, rfl⟩
abbrev main_call0_v1_0 : Ref sig .tc := ⟨.hbm, 284, rfl⟩
abbrev main_v224 : Ref sig .tc := ⟨.hbm, 285, rfl⟩
abbrev main_call1_v0 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_cst_52 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_cst_53 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_cst_54 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_cst_55 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_call2_v0 : Ref sig .tc := ⟨.hbm, 315, rfl⟩
abbrev main_call2_cst : Ref sig .tc := ⟨.hbm, 316, rfl⟩
abbrev main_call2_c : Ref sig .tc := ⟨.hbm, 317, rfl⟩
abbrev main_call2_v1_0 : Ref sig .tc := ⟨.hbm, 318, rfl⟩
abbrev main_v249 : Ref sig .tc := ⟨.hbm, 319, rfl⟩
abbrev main_call3_v0 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_cst_56 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_cst_57 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_cst_58 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_cst_59 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_call4_v0 : Ref sig .tc := ⟨.hbm, 349, rfl⟩
abbrev main_call4_cst : Ref sig .tc := ⟨.hbm, 350, rfl⟩
abbrev main_call4_c : Ref sig .tc := ⟨.hbm, 351, rfl⟩
abbrev main_call4_v1_0 : Ref sig .tc := ⟨.hbm, 352, rfl⟩
abbrev main_v274 : Ref sig .tc := ⟨.hbm, 353, rfl⟩
abbrev main_call5_v0 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_cst_60 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_cst_61 : Ref sig .tc := ⟨.hbm, 364, rfl⟩
abbrev main_v283 : Ref sig .tc := ⟨.hbm, 365, rfl⟩
abbrev main_v284 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_cst_62 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_cst_63 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_call6_v0 : Ref sig .tc := ⟨.hbm, 383, rfl⟩
abbrev main_call6_cst : Ref sig .tc := ⟨.hbm, 384, rfl⟩
abbrev main_call6_c : Ref sig .tc := ⟨.hbm, 385, rfl⟩
abbrev main_call6_v1_0 : Ref sig .tc := ⟨.hbm, 386, rfl⟩
abbrev main_v299 : Ref sig .tc := ⟨.hbm, 387, rfl⟩
abbrev main_call7_v0 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_cst_64 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_cst_65 : Ref sig .tc := ⟨.hbm, 401, rfl⟩
abbrev main_v311 : Ref sig .tc := ⟨.hbm, 402, rfl⟩
abbrev main_cst_66 : Ref sig .tc := ⟨.hbm, 403, rfl⟩
abbrev main_v312 : Ref sig .tc := ⟨.hbm, 404, rfl⟩
abbrev main_cst_67 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_cst_68 : Ref sig .tc := ⟨.hbm, 409, rfl⟩
abbrev main_v316 : Ref sig .tc := ⟨.hbm, 410, rfl⟩
abbrev main_cst_69 : Ref sig .tc := ⟨.hbm, 411, rfl⟩
abbrev main_v317 : Ref sig .tc := ⟨.hbm, 412, rfl⟩
abbrev main_v318 : Ref sig .tc := ⟨.hbm, 413, rfl⟩
abbrev main_v319 : Ref sig .tc := ⟨.hbm, 414, rfl⟩
abbrev main_cst_70 : Ref sig .tc := ⟨.hbm, 415, rfl⟩
abbrev main_v320 : Ref sig .tc := ⟨.hbm, 416, rfl⟩
abbrev main_cst_71 : Ref sig .tc := ⟨.hbm, 417, rfl⟩
abbrev main_v321 : Ref sig .tc := ⟨.hbm, 418, rfl⟩
abbrev main_cst_72 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_cst_73 : Ref sig .tc := ⟨.hbm, 423, rfl⟩
abbrev main_v325 : Ref sig .tc := ⟨.hbm, 424, rfl⟩
abbrev main_v326 : Ref sig .tc := ⟨.hbm, 425, rfl⟩
abbrev main_cst_74 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩

abbrev nD : Nat := 1
abbrev τ : Topo := Topo.v7x

variable {F : FTy → Type} [FloatOps F]
-- ==== Proof.Ref.Ops.lean ====
/- The reference @main as a list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v306`, named. It packs its operands into a list of dependent pairs
    whose shapes a later argument's type mentions, so `simp` cannot rewrite an operand where it stands; applied by
    name, the operands are plain arguments, which the window lemmas below rewrite before the name unfolds. -/
def fn_main_v306 : (main_v302 : Ref sig .tc).ty.Contents (Elt F) → (main_v303 : Ref sig .tc).ty.Contents (Elt F) → (main_v304 : Ref sig .tc).ty.Contents (Elt F) → (main_v305 : Ref sig .tc).ty.Contents (Elt F) → (main_v306 : Ref sig .tc).ty.Contents (Elt F) :=
  (fun u0 u1 u2 u3 => (concatenate S4x16384x32 0 [⟨S1x16384x32, (u0 : (⟨S1x16384x32, .f32⟩ : BufTy).Contents (Elt F))⟩, ⟨S1x16384x32, (u1 : (⟨S1x16384x32, .f32⟩ : BufTy).Contents (Elt F))⟩, ⟨S1x16384x32, (u2 : (⟨S1x16384x32, .f32⟩ : BufTy).Contents (Elt F))⟩, ⟨S1x16384x32, (u3 : (⟨S1x16384x32, .f32⟩ : BufTy).Contents (Elt F))⟩] concatenates_S1x16384x32_S1x16384x32_S1x16384x32_S1x16384x32_S4x16384x32_d0 : (⟨S4x16384x32, .f32⟩ : BufTy).Contents (Elt F)))

/-- The function of the operation that writes `main_v318`, named. It packs its operands into a list of dependent pairs
    whose shapes a later argument's type mentions, so `simp` cannot rewrite an operand where it stands; applied by
    name, the operands are plain arguments, which the window lemmas below rewrite before the name unfolds. -/
def fn_main_v318 : (main_v224 : Ref sig .tc).ty.Contents (Elt F) → (main_v249 : Ref sig .tc).ty.Contents (Elt F) → (main_v274 : Ref sig .tc).ty.Contents (Elt F) → (main_v299 : Ref sig .tc).ty.Contents (Elt F) → (main_v318 : Ref sig .tc).ty.Contents (Elt F) :=
  (fun u0 u1 u2 u3 => (concatenate S65536 0 [⟨S16384, (u0 : (⟨S16384, .i32⟩ : BufTy).Contents (Elt F))⟩, ⟨S16384, (u1 : (⟨S16384, .i32⟩ : BufTy).Contents (Elt F))⟩, ⟨S16384, (u2 : (⟨S16384, .i32⟩ : BufTy).Contents (Elt F))⟩, ⟨S16384, (u3 : (⟨S16384, .i32⟩ : BufTy).Contents (Elt F))⟩] concatenates_S16384_S16384_S16384_S16384_S65536_d0 : (⟨S65536, .i32⟩ : BufTy).Contents (Elt F)))

/-- The function of the operation that writes `main_v336`, named. It packs its operands into a list of dependent pairs
    whose shapes a later argument's type mentions, so `simp` cannot rewrite an operand where it stands; applied by
    name, the operands are plain arguments, which the window lemmas below rewrite before the name unfolds. -/
def fn_main_v336 : (main_v332 : Ref sig .tc).ty.Contents (Elt F) → (main_v333 : Ref sig .tc).ty.Contents (Elt F) → (main_v334 : Ref sig .tc).ty.Contents (Elt F) → (main_v335 : Ref sig .tc).ty.Contents (Elt F) → (main_v336 : Ref sig .tc).ty.Contents (Elt F) :=
  (fun u0 u1 u2 u3 => (concatenate S4x16384 0 [⟨S1x16384, (u0 : (⟨S1x16384, .i32⟩ : BufTy).Contents (Elt F))⟩, ⟨S1x16384, (u1 : (⟨S1x16384, .i32⟩ : BufTy).Contents (Elt F))⟩, ⟨S1x16384, (u2 : (⟨S1x16384, .i32⟩ : BufTy).Contents (Elt F))⟩, ⟨S1x16384, (u3 : (⟨S1x16384, .i32⟩ : BufTy).Contents (Elt F))⟩] concatenates_S1x16384_S1x16384_S1x16384_S1x16384_S4x16384_d0 : (⟨S4x16384, .i32⟩ : BufTy).Contents (Elt F)))

/-- @main's operations 1 … 60 of 434 (window `main_part0`). -/
abbrev ops_part0 : List (HloOp τ sig (Elt F)) :=
  [ nullary main_c (fun i => lit0 (S4x2.rowMajor i)),
    unary main_arg0 main_v0 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
    reshape main_v0 main_v1 (rfl : (.f32 : EltTy) = .f32) shapeCasts_S16x32x32x32_S16384x32,
    binary main_v1 main_arg1 main_v2 ((fun l r => Host.dotGeneral dot_S16384x32_S32x32_S16384x32_1_0_0_1_n_n none l r) : (⟨S16384x32, .f32⟩ : BufTy).Contents (Elt F) → (⟨S32x32, .f32⟩ : BufTy).Contents (Elt F) → (⟨S16384x32, .f32⟩ : BufTy).Contents (Elt F)),
    nullary main_v3 (iotaInDim S134217728 32 0),
    reshape main_v3 main_v4 (rfl : (.i32 : EltTy) = .i32) shapeCasts_S134217728_S16384x8192,
    unary main_c main_v5 ((extractStridedSlice S4x1 ![0, 0] · slices_S4x2_S4x1_0_0) : (⟨S4x2, .i32⟩ : BufTy).Contents (Elt F) → (⟨S4x1, .i32⟩ : BufTy).Contents (Elt F)),
    reshape main_v5 main_v6 (rfl : (.i32 : EltTy) = .i32) shapeCasts_S4x1_S4,
    reshape main_v6 main_v7 (rfl : (.i32 : EltTy) = .i32) shapeCasts_S4_S4x1x1,
    unary main_c main_v8 ((extractStridedSlice S4x1 ![0, 1] · slices_S4x2_S4x1_0_1) : (⟨S4x2, .i32⟩ : BufTy).Contents (Elt F) → (⟨S4x1, .i32⟩ : BufTy).Contents (Elt F)),
    reshape main_v8 main_v9 (rfl : (.i32 : EltTy) = .i32) shapeCasts_S4x1_S4,
    reshape main_v9 main_v10 (rfl : (.i32 : EltTy) = .i32) shapeCasts_S4_S4x1x1,
    binary main_v7 main_v10 main_v11 (xori : (⟨S4x1x1, .i32⟩ : BufTy).Contents (Elt F) → (⟨S4x1x1, .i32⟩ : BufTy).Contents (Elt F) → (⟨S4x1x1, .i32⟩ : BufTy).Contents (Elt F)),
    nullary main_c_0 (constantI S_ 32 466688986#32),
    unary main_c_0 main_v12 (broadcastInDim S4x1x1 ![] bcast_S_S4x1x1 : (⟨S_, .i32⟩ : BufTy).Contents (Elt F) → (⟨S4x1x1, .i32⟩ : BufTy).Contents (Elt F)),
    binary main_v11 main_v12 main_v13 (xori : (⟨S4x1x1, .i32⟩ : BufTy).Contents (Elt F) → (⟨S4x1x1, .i32⟩ : BufTy).Contents (Elt F) → (⟨S4x1x1, .i32⟩ : BufTy).Contents (Elt F)),
    unary main_v7 main_v14 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    unary main_v4 main_v15 (broadcastInDim S1x16384x8192 ![1, 2] bcast_S16384x8192_S1x16384x8192_1_2 : (⟨S16384x8192, .i32⟩ : BufTy).Contents (Elt F) → (⟨S1x16384x8192, .i32⟩ : BufTy).Contents (Elt F)),
    unary main_v15 main_v16 (broadcastInDim S4x16384x8192 ![0, 1, 2] bcast_S1x16384x8192_S4x16384x8192_0_1_2 : (⟨S1x16384x8192, .i32⟩ : BufTy).Contents (Elt F) → (⟨S4x16384x8192, .i32⟩ : BufTy).Contents (Elt F)),
    unary main_v10 main_v17 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v16 main_v17 main_v18 (addi : (⟨S4x16384x8192, .i32⟩ : BufTy).Contents (Elt F) → (⟨S4x16384x8192, .i32⟩ : BufTy).Contents (Elt F) → (⟨S4x16384x8192, .i32⟩ : BufTy).Contents (Elt F)),
    binary main_v14 main_v18 main_v19 (addi : (⟨S4x16384x8192, .i32⟩ : BufTy).Contents (Elt F) → (⟨S4x16384x8192, .i32⟩ : BufTy).Contents (Elt F) → (⟨S4x16384x8192, .i32⟩ : BufTy).Contents (Elt F)),
    nullary main_c_1 (constantI S_ 32 13#32),
    unary main_c_1 main_v20 (broadcastInDim S4x16384x8192 ![] bcast_S_S4x16384x8192 : (⟨S_, .i32⟩ : BufTy).Contents (Elt F) → (⟨S4x16384x8192, .i32⟩ : BufTy).Contents (Elt F)),
    binary main_v18 main_v20 main_v21 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_2 (constantI S_ 32 19#32),
    unary main_c_2 main_v22 (broadcastInDim S4x16384x8192 ![] bcast_S_S4x16384x8192 : (⟨S_, .i32⟩ : BufTy).Contents (Elt F) → (⟨S4x16384x8192, .i32⟩ : BufTy).Contents (Elt F)),
    binary main_v18 main_v22 main_v23 (Host.shrui : (⟨S4x16384x8192, .i32⟩ : BufTy).Contents (Elt F) → (⟨S4x16384x8192, .i32⟩ : BufTy).Contents (Elt F) → (⟨S4x16384x8192, .i32⟩ : BufTy).Contents (Elt F)),
    binary main_v21 main_v23 main_v24 (ori : (⟨S4x16384x8192, .i32⟩ : BufTy).Contents (Elt F) → (⟨S4x16384x8192, .i32⟩ : BufTy).Contents (Elt F) → (⟨S4x16384x8192, .i32⟩ : BufTy).Contents (Elt F)),
    binary main_v24 main_v19 main_v25 (xori : (⟨S4x16384x8192, .i32⟩ : BufTy).Contents (Elt F) → (⟨S4x16384x8192, .i32⟩ : BufTy).Contents (Elt F) → (⟨S4x16384x8192, .i32⟩ : BufTy).Contents (Elt F)),
    binary main_v19 main_v25 main_v26 (addi : (⟨S4x16384x8192, .i32⟩ : BufTy).Contents (Elt F) → (⟨S4x16384x8192, .i32⟩ : BufTy).Contents (Elt F) → (⟨S4x16384x8192, .i32⟩ : BufTy).Contents (Elt F)),
    nullary main_c_3 (constantI S_ 32 15#32),
    unary main_c_3 main_v27 (broadcastInDim S4x16384x8192 ![] bcast_S_S4x16384x8192 : (⟨S_, .i32⟩ : BufTy).Contents (Elt F) → (⟨S4x16384x8192, .i32⟩ : BufTy).Contents (Elt F)),
    binary main_v25 main_v27 main_v28 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_4 (constantI S_ 32 17#32),
    unary main_c_4 main_v29 (broadcastInDim S4x16384x8192 ![] bcast_S_S4x16384x8192 : (⟨S_, .i32⟩ : BufTy).Contents (Elt F) → (⟨S4x16384x8192, .i32⟩ : BufTy).Contents (Elt F)),
    binary main_v25 main_v29 main_v30 (Host.shrui : (⟨S4x16384x8192, .i32⟩ : BufTy).Contents (Elt F) → (⟨S4x16384x8192, .i32⟩ : BufTy).Contents (Elt F) → (⟨S4x16384x8192, .i32⟩ : BufTy).Contents (Elt F)),
    binary main_v28 main_v30 main_v31 (ori : (⟨S4x16384x8192, .i32⟩ : BufTy).Contents (Elt F) → (⟨S4x16384x8192, .i32⟩ : BufTy).Contents (Elt F) → (⟨S4x16384x8192, .i32⟩ : BufTy).Contents (Elt F)),
    binary main_v31 main_v26 main_v32 (xori : (⟨S4x16384x8192, .i32⟩ : BufTy).Contents (Elt F) → (⟨S4x16384x8192, .i32⟩ : BufTy).Contents (Elt F) → (⟨S4x16384x8192, .i32⟩ : BufTy).Contents (Elt F)),
    binary main_v26 main_v32 main_v33 (addi : (⟨S4x16384x8192, .i32⟩ : BufTy).Contents (Elt F) → (⟨S4x16384x8192, .i32⟩ : BufTy).Contents (Elt F) → (⟨S4x16384x8192, .i32⟩ : BufTy).Contents (Elt F)),
    nullary main_c_5 (constantI S_ 32 26#32),
    unary main_c_5 main_v34 (broadcastInDim S4x16384x8192 ![] bcast_S_S4x16384x8192 : (⟨S_, .i32⟩ : BufTy).Contents (Elt F) → (⟨S4x16384x8192, .i32⟩ : BufTy).Contents (Elt F)),
    binary main_v32 main_v34 main_v35 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_6 (constantI S_ 32 6#32),
    unary main_c_6 main_v36 (broadcastInDim S4x16384x8192 ![] bcast_S_S4x16384x8192 : (⟨S_, .i32⟩ : BufTy).Contents (Elt F) → (⟨S4x16384x8192, .i32⟩ : BufTy).Contents (Elt F)),
    binary main_v32 main_v36 main_v37 (Host.shrui : (⟨S4x16384x8192, .i32⟩ : BufTy).Contents (Elt F) → (⟨S4x16384x8192, .i32⟩ : BufTy).Contents (Elt F) → (⟨S4x16384x8192, .i32⟩ : BufTy).Contents (Elt F)),
    binary main_v35 main_v37 main_v38 (ori : (⟨S4x16384x8192, .i32⟩ : BufTy).Contents (Elt F) → (⟨S4x16384x8192, .i32⟩ : BufTy).Contents (Elt F) → (⟨S4x16384x8192, .i32⟩ : BufTy).Contents (Elt F)),
    binary main_v38 main_v33 main_v39 (xori : (⟨S4x16384x8192, .i32⟩ : BufTy).Contents (Elt F) → (⟨S4x16384x8192, .i32⟩ : BufTy).Contents (Elt F) → (⟨S4x16384x8192, .i32⟩ : BufTy).Contents (Elt F)),
    binary main_v33 main_v39 main_v40 (addi : (⟨S4x16384x8192, .i32⟩ : BufTy).Contents (Elt F) → (⟨S4x16384x8192, .i32⟩ : BufTy).Contents (Elt F) → (⟨S4x16384x8192, .i32⟩ : BufTy).Contents (Elt F)),
    nullary main_c_7 (constantI S_ 32 6#32),
    unary main_c_7 main_v41 (broadcastInDim S4x16384x8192 ![] bcast_S_S4x16384x8192 : (⟨S_, .i32⟩ : BufTy).Contents (Elt F) → (⟨S4x16384x8192, .i32⟩ : BufTy).Contents (Elt F)),
    binary main_v39 main_v41 main_v42 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_8 (constantI S_ 32 26#32),
    unary main_c_8 main_v43 (broadcastInDim S4x16384x8192 ![] bcast_S_S4x16384x8192 : (⟨S_, .i32⟩ : BufTy).Contents (Elt F) → (⟨S4x16384x8192, .i32⟩ : BufTy).Contents (Elt F)),
    binary main_v39 main_v43 main_v44 (Host.shrui : (⟨S4x16384x8192, .i32⟩ : BufTy).Contents (Elt F) → (⟨S4x16384x8192, .i32⟩ : BufTy).Contents (Elt F) → (⟨S4x16384x8192, .i32⟩ : BufTy).Contents (Elt F)),
    binary main_v42 main_v44 main_v45 (ori : (⟨S4x16384x8192, .i32⟩ : BufTy).Contents (Elt F) → (⟨S4x16384x8192, .i32⟩ : BufTy).Contents (Elt F) → (⟨S4x16384x8192, .i32⟩ : BufTy).Contents (Elt F)),
    binary main_v45 main_v40 main_v46 (xori : (⟨S4x16384x8192, .i32⟩ : BufTy).Contents (Elt F) → (⟨S4x16384x8192, .i32⟩ : BufTy).Contents (Elt F) → (⟨S4x16384x8192, .i32⟩ : BufTy).Contents (Elt F)),
    unary main_v10 main_v47 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v40 main_v47 main_v48 (addi : (⟨S4x16384x8192, .i32⟩ : BufTy).Contents (Elt F) → (⟨S4x16384x8192, .i32⟩ : BufTy).Contents (Elt F) → (⟨S4x16384x8192, .i32⟩ : BufTy).Contents (Elt F)),
    nullary main_c_9 (constantI S_ 32 1#32) ]

/-- @main's operations 61 … 120 of 434 (window `main_part1`). -/
abbrev ops_part1 : List (HloOp τ sig (Elt F)) :=
  [ unary main_c_9 main_v49 (broadcastInDim S4x1x1 ![] bcast_S_S4x1x1 : (⟨S_, .i32⟩ : BufTy).Contents (Elt F) → (⟨S4x1x1, .i32⟩ : BufTy).Contents (Elt F)),
    binary main_v13 main_v49 main_v50 (addi : (⟨S4x1x1, .i32⟩ : BufTy).Contents (Elt F) → (⟨S4x1x1, .i32⟩ : BufTy).Contents (Elt F) → (⟨S4x1x1, .i32⟩ : BufTy).Contents (Elt F)),
    unary main_v50 main_v51 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v46 main_v51 main_v52 (addi : (⟨S4x16384x8192, .i32⟩ : BufTy).Contents (Elt F) → (⟨S4x16384x8192, .i32⟩ : BufTy).Contents (Elt F) → (⟨S4x16384x8192, .i32⟩ : BufTy).Contents (Elt F)),
    binary main_v48 main_v52 main_v53 (addi : (⟨S4x16384x8192, .i32⟩ : BufTy).Contents (Elt F) → (⟨S4x16384x8192, .i32⟩ : BufTy).Contents (Elt F) → (⟨S4x16384x8192, .i32⟩ : BufTy).Contents (Elt F)),
    nullary main_c_10 (constantI S_ 32 17#32),
    unary main_c_10 main_v54 (broadcastInDim S4x16384x8192 ![] bcast_S_S4x16384x8192 : (⟨S_, .i32⟩ : BufTy).Contents (Elt F) → (⟨S4x16384x8192, .i32⟩ : BufTy).Contents (Elt F)),
    binary main_v52 main_v54 main_v55 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_11 (constantI S_ 32 15#32),
    unary main_c_11 main_v56 (broadcastInDim S4x16384x8192 ![] bcast_S_S4x16384x8192 : (⟨S_, .i32⟩ : BufTy).Contents (Elt F) → (⟨S4x16384x8192, .i32⟩ : BufTy).Contents (Elt F)),
    binary main_v52 main_v56 main_v57 (Host.shrui : (⟨S4x16384x8192, .i32⟩ : BufTy).Contents (Elt F) → (⟨S4x16384x8192, .i32⟩ : BufTy).Contents (Elt F) → (⟨S4x16384x8192, .i32⟩ : BufTy).Contents (Elt F)),
    binary main_v55 main_v57 main_v58 (ori : (⟨S4x16384x8192, .i32⟩ : BufTy).Contents (Elt F) → (⟨S4x16384x8192, .i32⟩ : BufTy).Contents (Elt F) → (⟨S4x16384x8192, .i32⟩ : BufTy).Contents (Elt F)),
    binary main_v58 main_v53 main_v59 (xori : (⟨S4x16384x8192, .i32⟩ : BufTy).Contents (Elt F) → (⟨S4x16384x8192, .i32⟩ : BufTy).Contents (Elt F) → (⟨S4x16384x8192, .i32⟩ : BufTy).Contents (Elt F)),
    binary main_v53 main_v59 main_v60 (addi : (⟨S4x16384x8192, .i32⟩ : BufTy).Contents (Elt F) → (⟨S4x16384x8192, .i32⟩ : BufTy).Contents (Elt F) → (⟨S4x16384x8192, .i32⟩ : BufTy).Contents (Elt F)),
    nullary main_c_12 (constantI S_ 32 29#32),
    unary main_c_12 main_v61 (broadcastInDim S4x16384x8192 ![] bcast_S_S4x16384x8192 : (⟨S_, .i32⟩ : BufTy).Contents (Elt F) → (⟨S4x16384x8192, .i32⟩ : BufTy).Contents (Elt F)),
    binary main_v59 main_v61 main_v62 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_13 (constantI S_ 32 3#32),
    unary main_c_13 main_v63 (broadcastInDim S4x16384x8192 ![] bcast_S_S4x16384x8192 : (⟨S_, .i32⟩ : BufTy).Contents (Elt F) → (⟨S4x16384x8192, .i32⟩ : BufTy).Contents (Elt F)),
    binary main_v59 main_v63 main_v64 (Host.shrui : (⟨S4x16384x8192, .i32⟩ : BufTy).Contents (Elt F) → (⟨S4x16384x8192, .i32⟩ : BufTy).Contents (Elt F) → (⟨S4x16384x8192, .i32⟩ : BufTy).Contents (Elt F)),
    binary main_v62 main_v64 main_v65 (ori : (⟨S4x16384x8192, .i32⟩ : BufTy).Contents (Elt F) → (⟨S4x16384x8192, .i32⟩ : BufTy).Contents (Elt F) → (⟨S4x16384x8192, .i32⟩ : BufTy).Contents (Elt F)),
    binary main_v65 main_v60 main_v66 (xori : (⟨S4x16384x8192, .i32⟩ : BufTy).Contents (Elt F) → (⟨S4x16384x8192, .i32⟩ : BufTy).Contents (Elt F) → (⟨S4x16384x8192, .i32⟩ : BufTy).Contents (Elt F)),
    binary main_v60 main_v66 main_v67 (addi : (⟨S4x16384x8192, .i32⟩ : BufTy).Contents (Elt F) → (⟨S4x16384x8192, .i32⟩ : BufTy).Contents (Elt F) → (⟨S4x16384x8192, .i32⟩ : BufTy).Contents (Elt F)),
    nullary main_c_14 (constantI S_ 32 16#32),
    unary main_c_14 main_v68 (broadcastInDim S4x16384x8192 ![] bcast_S_S4x16384x8192 : (⟨S_, .i32⟩ : BufTy).Contents (Elt F) → (⟨S4x16384x8192, .i32⟩ : BufTy).Contents (Elt F)),
    binary main_v66 main_v68 main_v69 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_15 (constantI S_ 32 16#32),
    unary main_c_15 main_v70 (broadcastInDim S4x16384x8192 ![] bcast_S_S4x16384x8192 : (⟨S_, .i32⟩ : BufTy).Contents (Elt F) → (⟨S4x16384x8192, .i32⟩ : BufTy).Contents (Elt F)),
    binary main_v66 main_v70 main_v71 (Host.shrui : (⟨S4x16384x8192, .i32⟩ : BufTy).Contents (Elt F) → (⟨S4x16384x8192, .i32⟩ : BufTy).Contents (Elt F) → (⟨S4x16384x8192, .i32⟩ : BufTy).Contents (Elt F)),
    binary main_v69 main_v71 main_v72 (ori : (⟨S4x16384x8192, .i32⟩ : BufTy).Contents (Elt F) → (⟨S4x16384x8192, .i32⟩ : BufTy).Contents (Elt F) → (⟨S4x16384x8192, .i32⟩ : BufTy).Contents (Elt F)),
    binary main_v72 main_v67 main_v73 (xori : (⟨S4x16384x8192, .i32⟩ : BufTy).Contents (Elt F) → (⟨S4x16384x8192, .i32⟩ : BufTy).Contents (Elt F) → (⟨S4x16384x8192, .i32⟩ : BufTy).Contents (Elt F)),
    binary main_v67 main_v73 main_v74 (addi : (⟨S4x16384x8192, .i32⟩ : BufTy).Contents (Elt F) → (⟨S4x16384x8192, .i32⟩ : BufTy).Contents (Elt F) → (⟨S4x16384x8192, .i32⟩ : BufTy).Contents (Elt F)),
    nullary main_c_16 (constantI S_ 32 24#32),
    unary main_c_16 main_v75 (broadcastInDim S4x16384x8192 ![] bcast_S_S4x16384x8192 : (⟨S_, .i32⟩ : BufTy).Contents (Elt F) → (⟨S4x16384x8192, .i32⟩ : BufTy).Contents (Elt F)),
    binary main_v73 main_v75 main_v76 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_17 (constantI S_ 32 8#32),
    unary main_c_17 main_v77 (broadcastInDim S4x16384x8192 ![] bcast_S_S4x16384x8192 : (⟨S_, .i32⟩ : BufTy).Contents (Elt F) → (⟨S4x16384x8192, .i32⟩ : BufTy).Contents (Elt F)),
    binary main_v73 main_v77 main_v78 (Host.shrui : (⟨S4x16384x8192, .i32⟩ : BufTy).Contents (Elt F) → (⟨S4x16384x8192, .i32⟩ : BufTy).Contents (Elt F) → (⟨S4x16384x8192, .i32⟩ : BufTy).Contents (Elt F)),
    binary main_v76 main_v78 main_v79 (ori : (⟨S4x16384x8192, .i32⟩ : BufTy).Contents (Elt F) → (⟨S4x16384x8192, .i32⟩ : BufTy).Contents (Elt F) → (⟨S4x16384x8192, .i32⟩ : BufTy).Contents (Elt F)),
    binary main_v79 main_v74 main_v80 (xori : (⟨S4x16384x8192, .i32⟩ : BufTy).Contents (Elt F) → (⟨S4x16384x8192, .i32⟩ : BufTy).Contents (Elt F) → (⟨S4x16384x8192, .i32⟩ : BufTy).Contents (Elt F)),
    unary main_v13 main_v81 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v74 main_v81 main_v82 (addi : (⟨S4x16384x8192, .i32⟩ : BufTy).Contents (Elt F) → (⟨S4x16384x8192, .i32⟩ : BufTy).Contents (Elt F) → (⟨S4x16384x8192, .i32⟩ : BufTy).Contents (Elt F)),
    nullary main_c_18 (constantI S_ 32 2#32),
    unary main_c_18 main_v83 (broadcastInDim S4x1x1 ![] bcast_S_S4x1x1 : (⟨S_, .i32⟩ : BufTy).Contents (Elt F) → (⟨S4x1x1, .i32⟩ : BufTy).Contents (Elt F)),
    binary main_v7 main_v83 main_v84 (addi : (⟨S4x1x1, .i32⟩ : BufTy).Contents (Elt F) → (⟨S4x1x1, .i32⟩ : BufTy).Contents (Elt F) → (⟨S4x1x1, .i32⟩ : BufTy).Contents (Elt F)),
    unary main_v84 main_v85 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v80 main_v85 main_v86 (addi : (⟨S4x16384x8192, .i32⟩ : BufTy).Contents (Elt F) → (⟨S4x16384x8192, .i32⟩ : BufTy).Contents (Elt F) → (⟨S4x16384x8192, .i32⟩ : BufTy).Contents (Elt F)),
    binary main_v82 main_v86 main_v87 (addi : (⟨S4x16384x8192, .i32⟩ : BufTy).Contents (Elt F) → (⟨S4x16384x8192, .i32⟩ : BufTy).Contents (Elt F) → (⟨S4x16384x8192, .i32⟩ : BufTy).Contents (Elt F)),
    nullary main_c_19 (constantI S_ 32 13#32),
    unary main_c_19 main_v88 (broadcastInDim S4x16384x8192 ![] bcast_S_S4x16384x8192 : (⟨S_, .i32⟩ : BufTy).Contents (Elt F) → (⟨S4x16384x8192, .i32⟩ : BufTy).Contents (Elt F)),
    binary main_v86 main_v88 main_v89 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_20 (constantI S_ 32 19#32),
    unary main_c_20 main_v90 (broadcastInDim S4x16384x8192 ![] bcast_S_S4x16384x8192 : (⟨S_, .i32⟩ : BufTy).Contents (Elt F) → (⟨S4x16384x8192, .i32⟩ : BufTy).Contents (Elt F)),
    binary main_v86 main_v90 main_v91 (Host.shrui : (⟨S4x16384x8192, .i32⟩ : BufTy).Contents (Elt F) → (⟨S4x16384x8192, .i32⟩ : BufTy).Contents (Elt F) → (⟨S4x16384x8192, .i32⟩ : BufTy).Contents (Elt F)),
    binary main_v89 main_v91 main_v92 (ori : (⟨S4x16384x8192, .i32⟩ : BufTy).Contents (Elt F) → (⟨S4x16384x8192, .i32⟩ : BufTy).Contents (Elt F) → (⟨S4x16384x8192, .i32⟩ : BufTy).Contents (Elt F)),
    binary main_v92 main_v87 main_v93 (xori : (⟨S4x16384x8192, .i32⟩ : BufTy).Contents (Elt F) → (⟨S4x16384x8192, .i32⟩ : BufTy).Contents (Elt F) → (⟨S4x16384x8192, .i32⟩ : BufTy).Contents (Elt F)),
    binary main_v87 main_v93 main_v94 (addi : (⟨S4x16384x8192, .i32⟩ : BufTy).Contents (Elt F) → (⟨S4x16384x8192, .i32⟩ : BufTy).Contents (Elt F) → (⟨S4x16384x8192, .i32⟩ : BufTy).Contents (Elt F)),
    nullary main_c_21 (constantI S_ 32 15#32),
    unary main_c_21 main_v95 (broadcastInDim S4x16384x8192 ![] bcast_S_S4x16384x8192 : (⟨S_, .i32⟩ : BufTy).Contents (Elt F) → (⟨S4x16384x8192, .i32⟩ : BufTy).Contents (Elt F)),
    binary main_v93 main_v95 main_v96 (Host.shli : (⟨S4x16384x8192, .i32⟩ : BufTy).Contents (Elt F) → (⟨S4x16384x8192, .i32⟩ : BufTy).Contents (Elt F) → (⟨S4x16384x8192, .i32⟩ : BufTy).Contents (Elt F)) ]

/-- @main's operations 121 … 180 of 434 (window `main_part2`). -/
abbrev ops_part2 : List (HloOp τ sig (Elt F)) :=
  [ nullary main_c_22 (constantI S_ 32 17#32),
    unary main_c_22 main_v97 (broadcastInDim S4x16384x8192 ![] bcast_S_S4x16384x8192 : (⟨S_, .i32⟩ : BufTy).Contents (Elt F) → (⟨S4x16384x8192, .i32⟩ : BufTy).Contents (Elt F)),
    binary main_v93 main_v97 main_v98 (Host.shrui : (⟨S4x16384x8192, .i32⟩ : BufTy).Contents (Elt F) → (⟨S4x16384x8192, .i32⟩ : BufTy).Contents (Elt F) → (⟨S4x16384x8192, .i32⟩ : BufTy).Contents (Elt F)),
    binary main_v96 main_v98 main_v99 (ori : (⟨S4x16384x8192, .i32⟩ : BufTy).Contents (Elt F) → (⟨S4x16384x8192, .i32⟩ : BufTy).Contents (Elt F) → (⟨S4x16384x8192, .i32⟩ : BufTy).Contents (Elt F)),
    binary main_v99 main_v94 main_v100 (xori : (⟨S4x16384x8192, .i32⟩ : BufTy).Contents (Elt F) → (⟨S4x16384x8192, .i32⟩ : BufTy).Contents (Elt F) → (⟨S4x16384x8192, .i32⟩ : BufTy).Contents (Elt F)),
    binary main_v94 main_v100 main_v101 (addi : (⟨S4x16384x8192, .i32⟩ : BufTy).Contents (Elt F) → (⟨S4x16384x8192, .i32⟩ : BufTy).Contents (Elt F) → (⟨S4x16384x8192, .i32⟩ : BufTy).Contents (Elt F)),
    nullary main_c_23 (constantI S_ 32 26#32),
    unary main_c_23 main_v102 (broadcastInDim S4x16384x8192 ![] bcast_S_S4x16384x8192 : (⟨S_, .i32⟩ : BufTy).Contents (Elt F) → (⟨S4x16384x8192, .i32⟩ : BufTy).Contents (Elt F)),
    binary main_v100 main_v102 main_v103 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_24 (constantI S_ 32 6#32),
    unary main_c_24 main_v104 (broadcastInDim S4x16384x8192 ![] bcast_S_S4x16384x8192 : (⟨S_, .i32⟩ : BufTy).Contents (Elt F) → (⟨S4x16384x8192, .i32⟩ : BufTy).Contents (Elt F)),
    binary main_v100 main_v104 main_v105 (Host.shrui : (⟨S4x16384x8192, .i32⟩ : BufTy).Contents (Elt F) → (⟨S4x16384x8192, .i32⟩ : BufTy).Contents (Elt F) → (⟨S4x16384x8192, .i32⟩ : BufTy).Contents (Elt F)),
    binary main_v103 main_v105 main_v106 (ori : (⟨S4x16384x8192, .i32⟩ : BufTy).Contents (Elt F) → (⟨S4x16384x8192, .i32⟩ : BufTy).Contents (Elt F) → (⟨S4x16384x8192, .i32⟩ : BufTy).Contents (Elt F)),
    binary main_v106 main_v101 main_v107 (xori : (⟨S4x16384x8192, .i32⟩ : BufTy).Contents (Elt F) → (⟨S4x16384x8192, .i32⟩ : BufTy).Contents (Elt F) → (⟨S4x16384x8192, .i32⟩ : BufTy).Contents (Elt F)),
    binary main_v101 main_v107 main_v108 (addi : (⟨S4x16384x8192, .i32⟩ : BufTy).Contents (Elt F) → (⟨S4x16384x8192, .i32⟩ : BufTy).Contents (Elt F) → (⟨S4x16384x8192, .i32⟩ : BufTy).Contents (Elt F)),
    nullary main_c_25 (constantI S_ 32 6#32),
    unary main_c_25 main_v109 (broadcastInDim S4x16384x8192 ![] bcast_S_S4x16384x8192 : (⟨S_, .i32⟩ : BufTy).Contents (Elt F) → (⟨S4x16384x8192, .i32⟩ : BufTy).Contents (Elt F)),
    binary main_v107 main_v109 main_v110 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_26 (constantI S_ 32 26#32),
    unary main_c_26 main_v111 (broadcastInDim S4x16384x8192 ![] bcast_S_S4x16384x8192 : (⟨S_, .i32⟩ : BufTy).Contents (Elt F) → (⟨S4x16384x8192, .i32⟩ : BufTy).Contents (Elt F)),
    binary main_v107 main_v111 main_v112 (Host.shrui : (⟨S4x16384x8192, .i32⟩ : BufTy).Contents (Elt F) → (⟨S4x16384x8192, .i32⟩ : BufTy).Contents (Elt F) → (⟨S4x16384x8192, .i32⟩ : BufTy).Contents (Elt F)),
    binary main_v110 main_v112 main_v113 (ori : (⟨S4x16384x8192, .i32⟩ : BufTy).Contents (Elt F) → (⟨S4x16384x8192, .i32⟩ : BufTy).Contents (Elt F) → (⟨S4x16384x8192, .i32⟩ : BufTy).Contents (Elt F)),
    binary main_v113 main_v108 main_v114 (xori : (⟨S4x16384x8192, .i32⟩ : BufTy).Contents (Elt F) → (⟨S4x16384x8192, .i32⟩ : BufTy).Contents (Elt F) → (⟨S4x16384x8192, .i32⟩ : BufTy).Contents (Elt F)),
    unary main_v7 main_v115 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v108 main_v115 main_v116 (addi : (⟨S4x16384x8192, .i32⟩ : BufTy).Contents (Elt F) → (⟨S4x16384x8192, .i32⟩ : BufTy).Contents (Elt F) → (⟨S4x16384x8192, .i32⟩ : BufTy).Contents (Elt F)),
    nullary main_c_27 (constantI S_ 32 3#32),
    unary main_c_27 main_v117 (broadcastInDim S4x1x1 ![] bcast_S_S4x1x1 : (⟨S_, .i32⟩ : BufTy).Contents (Elt F) → (⟨S4x1x1, .i32⟩ : BufTy).Contents (Elt F)),
    binary main_v10 main_v117 main_v118 (addi : (⟨S4x1x1, .i32⟩ : BufTy).Contents (Elt F) → (⟨S4x1x1, .i32⟩ : BufTy).Contents (Elt F) → (⟨S4x1x1, .i32⟩ : BufTy).Contents (Elt F)),
    unary main_v118 main_v119 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v114 main_v119 main_v120 (addi : (⟨S4x16384x8192, .i32⟩ : BufTy).Contents (Elt F) → (⟨S4x16384x8192, .i32⟩ : BufTy).Contents (Elt F) → (⟨S4x16384x8192, .i32⟩ : BufTy).Contents (Elt F)),
    binary main_v116 main_v120 main_v121 (addi : (⟨S4x16384x8192, .i32⟩ : BufTy).Contents (Elt F) → (⟨S4x16384x8192, .i32⟩ : BufTy).Contents (Elt F) → (⟨S4x16384x8192, .i32⟩ : BufTy).Contents (Elt F)),
    nullary main_c_28 (constantI S_ 32 17#32),
    unary main_c_28 main_v122 (broadcastInDim S4x16384x8192 ![] bcast_S_S4x16384x8192 : (⟨S_, .i32⟩ : BufTy).Contents (Elt F) → (⟨S4x16384x8192, .i32⟩ : BufTy).Contents (Elt F)),
    binary main_v120 main_v122 main_v123 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_29 (constantI S_ 32 15#32),
    unary main_c_29 main_v124 (broadcastInDim S4x16384x8192 ![] bcast_S_S4x16384x8192 : (⟨S_, .i32⟩ : BufTy).Contents (Elt F) → (⟨S4x16384x8192, .i32⟩ : BufTy).Contents (Elt F)),
    binary main_v120 main_v124 main_v125 (Host.shrui : (⟨S4x16384x8192, .i32⟩ : BufTy).Contents (Elt F) → (⟨S4x16384x8192, .i32⟩ : BufTy).Contents (Elt F) → (⟨S4x16384x8192, .i32⟩ : BufTy).Contents (Elt F)),
    binary main_v123 main_v125 main_v126 (ori : (⟨S4x16384x8192, .i32⟩ : BufTy).Contents (Elt F) → (⟨S4x16384x8192, .i32⟩ : BufTy).Contents (Elt F) → (⟨S4x16384x8192, .i32⟩ : BufTy).Contents (Elt F)),
    binary main_v126 main_v121 main_v127 (xori : (⟨S4x16384x8192, .i32⟩ : BufTy).Contents (Elt F) → (⟨S4x16384x8192, .i32⟩ : BufTy).Contents (Elt F) → (⟨S4x16384x8192, .i32⟩ : BufTy).Contents (Elt F)),
    binary main_v121 main_v127 main_v128 (addi : (⟨S4x16384x8192, .i32⟩ : BufTy).Contents (Elt F) → (⟨S4x16384x8192, .i32⟩ : BufTy).Contents (Elt F) → (⟨S4x16384x8192, .i32⟩ : BufTy).Contents (Elt F)),
    nullary main_c_30 (constantI S_ 32 29#32),
    unary main_c_30 main_v129 (broadcastInDim S4x16384x8192 ![] bcast_S_S4x16384x8192 : (⟨S_, .i32⟩ : BufTy).Contents (Elt F) → (⟨S4x16384x8192, .i32⟩ : BufTy).Contents (Elt F)),
    binary main_v127 main_v129 main_v130 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_31 (constantI S_ 32 3#32),
    unary main_c_31 main_v131 (broadcastInDim S4x16384x8192 ![] bcast_S_S4x16384x8192 : (⟨S_, .i32⟩ : BufTy).Contents (Elt F) → (⟨S4x16384x8192, .i32⟩ : BufTy).Contents (Elt F)),
    binary main_v127 main_v131 main_v132 (Host.shrui : (⟨S4x16384x8192, .i32⟩ : BufTy).Contents (Elt F) → (⟨S4x16384x8192, .i32⟩ : BufTy).Contents (Elt F) → (⟨S4x16384x8192, .i32⟩ : BufTy).Contents (Elt F)),
    binary main_v130 main_v132 main_v133 (ori : (⟨S4x16384x8192, .i32⟩ : BufTy).Contents (Elt F) → (⟨S4x16384x8192, .i32⟩ : BufTy).Contents (Elt F) → (⟨S4x16384x8192, .i32⟩ : BufTy).Contents (Elt F)),
    binary main_v133 main_v128 main_v134 (xori : (⟨S4x16384x8192, .i32⟩ : BufTy).Contents (Elt F) → (⟨S4x16384x8192, .i32⟩ : BufTy).Contents (Elt F) → (⟨S4x16384x8192, .i32⟩ : BufTy).Contents (Elt F)),
    binary main_v128 main_v134 main_v135 (addi : (⟨S4x16384x8192, .i32⟩ : BufTy).Contents (Elt F) → (⟨S4x16384x8192, .i32⟩ : BufTy).Contents (Elt F) → (⟨S4x16384x8192, .i32⟩ : BufTy).Contents (Elt F)),
    nullary main_c_32 (constantI S_ 32 16#32),
    unary main_c_32 main_v136 (broadcastInDim S4x16384x8192 ![] bcast_S_S4x16384x8192 : (⟨S_, .i32⟩ : BufTy).Contents (Elt F) → (⟨S4x16384x8192, .i32⟩ : BufTy).Contents (Elt F)),
    binary main_v134 main_v136 main_v137 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_33 (constantI S_ 32 16#32),
    unary main_c_33 main_v138 (broadcastInDim S4x16384x8192 ![] bcast_S_S4x16384x8192 : (⟨S_, .i32⟩ : BufTy).Contents (Elt F) → (⟨S4x16384x8192, .i32⟩ : BufTy).Contents (Elt F)),
    binary main_v134 main_v138 main_v139 (Host.shrui : (⟨S4x16384x8192, .i32⟩ : BufTy).Contents (Elt F) → (⟨S4x16384x8192, .i32⟩ : BufTy).Contents (Elt F) → (⟨S4x16384x8192, .i32⟩ : BufTy).Contents (Elt F)),
    binary main_v137 main_v139 main_v140 (ori : (⟨S4x16384x8192, .i32⟩ : BufTy).Contents (Elt F) → (⟨S4x16384x8192, .i32⟩ : BufTy).Contents (Elt F) → (⟨S4x16384x8192, .i32⟩ : BufTy).Contents (Elt F)),
    binary main_v140 main_v135 main_v141 (xori : (⟨S4x16384x8192, .i32⟩ : BufTy).Contents (Elt F) → (⟨S4x16384x8192, .i32⟩ : BufTy).Contents (Elt F) → (⟨S4x16384x8192, .i32⟩ : BufTy).Contents (Elt F)),
    binary main_v135 main_v141 main_v142 (addi : (⟨S4x16384x8192, .i32⟩ : BufTy).Contents (Elt F) → (⟨S4x16384x8192, .i32⟩ : BufTy).Contents (Elt F) → (⟨S4x16384x8192, .i32⟩ : BufTy).Contents (Elt F)),
    nullary main_c_34 (constantI S_ 32 24#32),
    unary main_c_34 main_v143 (broadcastInDim S4x16384x8192 ![] bcast_S_S4x16384x8192 : (⟨S_, .i32⟩ : BufTy).Contents (Elt F) → (⟨S4x16384x8192, .i32⟩ : BufTy).Contents (Elt F)) ]

/-- @main's operations 181 … 240 of 434 (window `main_part3`). -/
abbrev ops_part3 : List (HloOp τ sig (Elt F)) :=
  [ binary main_v141 main_v143 main_v144 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_35 (constantI S_ 32 8#32),
    unary main_c_35 main_v145 (broadcastInDim S4x16384x8192 ![] bcast_S_S4x16384x8192 : (⟨S_, .i32⟩ : BufTy).Contents (Elt F) → (⟨S4x16384x8192, .i32⟩ : BufTy).Contents (Elt F)),
    binary main_v141 main_v145 main_v146 (Host.shrui : (⟨S4x16384x8192, .i32⟩ : BufTy).Contents (Elt F) → (⟨S4x16384x8192, .i32⟩ : BufTy).Contents (Elt F) → (⟨S4x16384x8192, .i32⟩ : BufTy).Contents (Elt F)),
    binary main_v144 main_v146 main_v147 (ori : (⟨S4x16384x8192, .i32⟩ : BufTy).Contents (Elt F) → (⟨S4x16384x8192, .i32⟩ : BufTy).Contents (Elt F) → (⟨S4x16384x8192, .i32⟩ : BufTy).Contents (Elt F)),
    binary main_v147 main_v142 main_v148 (xori : (⟨S4x16384x8192, .i32⟩ : BufTy).Contents (Elt F) → (⟨S4x16384x8192, .i32⟩ : BufTy).Contents (Elt F) → (⟨S4x16384x8192, .i32⟩ : BufTy).Contents (Elt F)),
    unary main_v10 main_v149 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v142 main_v149 main_v150 (addi : (⟨S4x16384x8192, .i32⟩ : BufTy).Contents (Elt F) → (⟨S4x16384x8192, .i32⟩ : BufTy).Contents (Elt F) → (⟨S4x16384x8192, .i32⟩ : BufTy).Contents (Elt F)),
    nullary main_c_36 (constantI S_ 32 4#32),
    unary main_c_36 main_v151 (broadcastInDim S4x1x1 ![] bcast_S_S4x1x1 : (⟨S_, .i32⟩ : BufTy).Contents (Elt F) → (⟨S4x1x1, .i32⟩ : BufTy).Contents (Elt F)),
    binary main_v13 main_v151 main_v152 (addi : (⟨S4x1x1, .i32⟩ : BufTy).Contents (Elt F) → (⟨S4x1x1, .i32⟩ : BufTy).Contents (Elt F) → (⟨S4x1x1, .i32⟩ : BufTy).Contents (Elt F)),
    unary main_v152 main_v153 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v148 main_v153 main_v154 (addi : (⟨S4x16384x8192, .i32⟩ : BufTy).Contents (Elt F) → (⟨S4x16384x8192, .i32⟩ : BufTy).Contents (Elt F) → (⟨S4x16384x8192, .i32⟩ : BufTy).Contents (Elt F)),
    binary main_v150 main_v154 main_v155 (addi : (⟨S4x16384x8192, .i32⟩ : BufTy).Contents (Elt F) → (⟨S4x16384x8192, .i32⟩ : BufTy).Contents (Elt F) → (⟨S4x16384x8192, .i32⟩ : BufTy).Contents (Elt F)),
    nullary main_c_37 (constantI S_ 32 13#32),
    unary main_c_37 main_v156 (broadcastInDim S4x16384x8192 ![] bcast_S_S4x16384x8192 : (⟨S_, .i32⟩ : BufTy).Contents (Elt F) → (⟨S4x16384x8192, .i32⟩ : BufTy).Contents (Elt F)),
    binary main_v154 main_v156 main_v157 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_38 (constantI S_ 32 19#32),
    unary main_c_38 main_v158 (broadcastInDim S4x16384x8192 ![] bcast_S_S4x16384x8192 : (⟨S_, .i32⟩ : BufTy).Contents (Elt F) → (⟨S4x16384x8192, .i32⟩ : BufTy).Contents (Elt F)),
    binary main_v154 main_v158 main_v159 (Host.shrui : (⟨S4x16384x8192, .i32⟩ : BufTy).Contents (Elt F) → (⟨S4x16384x8192, .i32⟩ : BufTy).Contents (Elt F) → (⟨S4x16384x8192, .i32⟩ : BufTy).Contents (Elt F)),
    binary main_v157 main_v159 main_v160 (ori : (⟨S4x16384x8192, .i32⟩ : BufTy).Contents (Elt F) → (⟨S4x16384x8192, .i32⟩ : BufTy).Contents (Elt F) → (⟨S4x16384x8192, .i32⟩ : BufTy).Contents (Elt F)),
    binary main_v160 main_v155 main_v161 (xori : (⟨S4x16384x8192, .i32⟩ : BufTy).Contents (Elt F) → (⟨S4x16384x8192, .i32⟩ : BufTy).Contents (Elt F) → (⟨S4x16384x8192, .i32⟩ : BufTy).Contents (Elt F)),
    binary main_v155 main_v161 main_v162 (addi : (⟨S4x16384x8192, .i32⟩ : BufTy).Contents (Elt F) → (⟨S4x16384x8192, .i32⟩ : BufTy).Contents (Elt F) → (⟨S4x16384x8192, .i32⟩ : BufTy).Contents (Elt F)),
    nullary main_c_39 (constantI S_ 32 15#32),
    unary main_c_39 main_v163 (broadcastInDim S4x16384x8192 ![] bcast_S_S4x16384x8192 : (⟨S_, .i32⟩ : BufTy).Contents (Elt F) → (⟨S4x16384x8192, .i32⟩ : BufTy).Contents (Elt F)),
    binary main_v161 main_v163 main_v164 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_40 (constantI S_ 32 17#32),
    unary main_c_40 main_v165 (broadcastInDim S4x16384x8192 ![] bcast_S_S4x16384x8192 : (⟨S_, .i32⟩ : BufTy).Contents (Elt F) → (⟨S4x16384x8192, .i32⟩ : BufTy).Contents (Elt F)),
    binary main_v161 main_v165 main_v166 (Host.shrui : (⟨S4x16384x8192, .i32⟩ : BufTy).Contents (Elt F) → (⟨S4x16384x8192, .i32⟩ : BufTy).Contents (Elt F) → (⟨S4x16384x8192, .i32⟩ : BufTy).Contents (Elt F)),
    binary main_v164 main_v166 main_v167 (ori : (⟨S4x16384x8192, .i32⟩ : BufTy).Contents (Elt F) → (⟨S4x16384x8192, .i32⟩ : BufTy).Contents (Elt F) → (⟨S4x16384x8192, .i32⟩ : BufTy).Contents (Elt F)),
    binary main_v167 main_v162 main_v168 (xori : (⟨S4x16384x8192, .i32⟩ : BufTy).Contents (Elt F) → (⟨S4x16384x8192, .i32⟩ : BufTy).Contents (Elt F) → (⟨S4x16384x8192, .i32⟩ : BufTy).Contents (Elt F)),
    binary main_v162 main_v168 main_v169 (addi : (⟨S4x16384x8192, .i32⟩ : BufTy).Contents (Elt F) → (⟨S4x16384x8192, .i32⟩ : BufTy).Contents (Elt F) → (⟨S4x16384x8192, .i32⟩ : BufTy).Contents (Elt F)),
    nullary main_c_41 (constantI S_ 32 26#32),
    unary main_c_41 main_v170 (broadcastInDim S4x16384x8192 ![] bcast_S_S4x16384x8192 : (⟨S_, .i32⟩ : BufTy).Contents (Elt F) → (⟨S4x16384x8192, .i32⟩ : BufTy).Contents (Elt F)),
    binary main_v168 main_v170 main_v171 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_42 (constantI S_ 32 6#32),
    unary main_c_42 main_v172 (broadcastInDim S4x16384x8192 ![] bcast_S_S4x16384x8192 : (⟨S_, .i32⟩ : BufTy).Contents (Elt F) → (⟨S4x16384x8192, .i32⟩ : BufTy).Contents (Elt F)),
    binary main_v168 main_v172 main_v173 (Host.shrui : (⟨S4x16384x8192, .i32⟩ : BufTy).Contents (Elt F) → (⟨S4x16384x8192, .i32⟩ : BufTy).Contents (Elt F) → (⟨S4x16384x8192, .i32⟩ : BufTy).Contents (Elt F)),
    binary main_v171 main_v173 main_v174 (ori : (⟨S4x16384x8192, .i32⟩ : BufTy).Contents (Elt F) → (⟨S4x16384x8192, .i32⟩ : BufTy).Contents (Elt F) → (⟨S4x16384x8192, .i32⟩ : BufTy).Contents (Elt F)),
    binary main_v174 main_v169 main_v175 (xori : (⟨S4x16384x8192, .i32⟩ : BufTy).Contents (Elt F) → (⟨S4x16384x8192, .i32⟩ : BufTy).Contents (Elt F) → (⟨S4x16384x8192, .i32⟩ : BufTy).Contents (Elt F)),
    binary main_v169 main_v175 main_v176 (addi : (⟨S4x16384x8192, .i32⟩ : BufTy).Contents (Elt F) → (⟨S4x16384x8192, .i32⟩ : BufTy).Contents (Elt F) → (⟨S4x16384x8192, .i32⟩ : BufTy).Contents (Elt F)),
    nullary main_c_43 (constantI S_ 32 6#32),
    unary main_c_43 main_v177 (broadcastInDim S4x16384x8192 ![] bcast_S_S4x16384x8192 : (⟨S_, .i32⟩ : BufTy).Contents (Elt F) → (⟨S4x16384x8192, .i32⟩ : BufTy).Contents (Elt F)),
    binary main_v175 main_v177 main_v178 (Host.shli : (⟨S4x16384x8192, .i32⟩ : BufTy).Contents (Elt F) → (⟨S4x16384x8192, .i32⟩ : BufTy).Contents (Elt F) → (⟨S4x16384x8192, .i32⟩ : BufTy).Contents (Elt F)),
    nullary main_c_44 (constantI S_ 32 26#32),
    unary main_c_44 main_v179 (broadcastInDim S4x16384x8192 ![] bcast_S_S4x16384x8192 : (⟨S_, .i32⟩ : BufTy).Contents (Elt F) → (⟨S4x16384x8192, .i32⟩ : BufTy).Contents (Elt F)),
    binary main_v175 main_v179 main_v180 (Host.shrui : (⟨S4x16384x8192, .i32⟩ : BufTy).Contents (Elt F) → (⟨S4x16384x8192, .i32⟩ : BufTy).Contents (Elt F) → (⟨S4x16384x8192, .i32⟩ : BufTy).Contents (Elt F)),
    binary main_v178 main_v180 main_v181 (ori : (⟨S4x16384x8192, .i32⟩ : BufTy).Contents (Elt F) → (⟨S4x16384x8192, .i32⟩ : BufTy).Contents (Elt F) → (⟨S4x16384x8192, .i32⟩ : BufTy).Contents (Elt F)),
    binary main_v181 main_v176 main_v182 (xori : (⟨S4x16384x8192, .i32⟩ : BufTy).Contents (Elt F) → (⟨S4x16384x8192, .i32⟩ : BufTy).Contents (Elt F) → (⟨S4x16384x8192, .i32⟩ : BufTy).Contents (Elt F)),
    unary main_v13 main_v183 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v176 main_v183 main_v184 (addi : (⟨S4x16384x8192, .i32⟩ : BufTy).Contents (Elt F) → (⟨S4x16384x8192, .i32⟩ : BufTy).Contents (Elt F) → (⟨S4x16384x8192, .i32⟩ : BufTy).Contents (Elt F)),
    nullary main_c_45 (constantI S_ 32 5#32),
    unary main_c_45 main_v185 (broadcastInDim S4x1x1 ![] bcast_S_S4x1x1 : (⟨S_, .i32⟩ : BufTy).Contents (Elt F) → (⟨S4x1x1, .i32⟩ : BufTy).Contents (Elt F)),
    binary main_v7 main_v185 main_v186 (addi : (⟨S4x1x1, .i32⟩ : BufTy).Contents (Elt F) → (⟨S4x1x1, .i32⟩ : BufTy).Contents (Elt F) → (⟨S4x1x1, .i32⟩ : BufTy).Contents (Elt F)),
    unary main_v186 main_v187 (broadcastInDim S4x16384x8192 ![0, 1, 2] bcast_S4x1x1_S4x16384x8192_0_1_2 : (⟨S4x1x1, .i32⟩ : BufTy).Contents (Elt F) → (⟨S4x16384x8192, .i32⟩ : BufTy).Contents (Elt F)),
    binary main_v182 main_v187 main_v188 (addi : (⟨S4x16384x8192, .i32⟩ : BufTy).Contents (Elt F) → (⟨S4x16384x8192, .i32⟩ : BufTy).Contents (Elt F) → (⟨S4x16384x8192, .i32⟩ : BufTy).Contents (Elt F)),
    binary main_v184 main_v188 main_v189 (xori : (⟨S4x16384x8192, .i32⟩ : BufTy).Contents (Elt F) → (⟨S4x16384x8192, .i32⟩ : BufTy).Contents (Elt F) → (⟨S4x16384x8192, .i32⟩ : BufTy).Contents (Elt F)),
    nullary main_c_46 (constantI S_ 32 9#32),
    unary main_c_46 main_v190 (broadcastInDim S4x16384x8192 ![] bcast_S_S4x16384x8192 : (⟨S_, .i32⟩ : BufTy).Contents (Elt F) → (⟨S4x16384x8192, .i32⟩ : BufTy).Contents (Elt F)),
    binary main_v189 main_v190 main_v191 (Host.shrui : (⟨S4x16384x8192, .i32⟩ : BufTy).Contents (Elt F) → (⟨S4x16384x8192, .i32⟩ : BufTy).Contents (Elt F) → (⟨S4x16384x8192, .i32⟩ : BufTy).Contents (Elt F)) ]

/-- @main's operations 241 … 270 of 434 (window `main_part4`). -/
abbrev ops_part4_0 : List (HloOp τ sig (Elt F)) :=
  [ unary main_v191 main_v192 (id : (⟨S4x16384x8192, .i32⟩ : BufTy).Contents (Elt F) → (⟨S4x16384x8192, .i32⟩ : BufTy).Contents (Elt F)),
    unary main_v192 main_v193 (sitofp .f32 : (⟨S4x16384x8192, .i32⟩ : BufTy).Contents (Elt F) → (⟨S4x16384x8192, .f32⟩ : BufTy).Contents (Elt F)),
    nullary main_cst (constant S_ .f32 0x34000000#32),
    unary main_cst main_v194 (broadcastInDim S4x16384x8192 ![] bcast_S_S4x16384x8192 : (⟨S_, .f32⟩ : BufTy).Contents (Elt F) → (⟨S4x16384x8192, .f32⟩ : BufTy).Contents (Elt F)),
    binary main_v193 main_v194 main_v195 (mulf : (⟨S4x16384x8192, .f32⟩ : BufTy).Contents (Elt F) → (⟨S4x16384x8192, .f32⟩ : BufTy).Contents (Elt F) → (⟨S4x16384x8192, .f32⟩ : BufTy).Contents (Elt F)),
    nullary main_cst_47 (constant S_ .f32 0x00800000#32),
    unary main_cst_47 main_v196 (broadcastInDim S4x16384x8192 ![] bcast_S_S4x16384x8192 : (⟨S_, .f32⟩ : BufTy).Contents (Elt F) → (⟨S4x16384x8192, .f32⟩ : BufTy).Contents (Elt F)),
    binary main_v195 main_v196 main_v197 (maximumf : (⟨S4x16384x8192, .f32⟩ : BufTy).Contents (Elt F) → (⟨S4x16384x8192, .f32⟩ : BufTy).Contents (Elt F) → (⟨S4x16384x8192, .f32⟩ : BufTy).Contents (Elt F)),
    unary main_v197 main_v198 (Host.log : (⟨S4x16384x8192, .f32⟩ : BufTy).Contents (Elt F) → (⟨S4x16384x8192, .f32⟩ : BufTy).Contents (Elt F)),
    unary main_v198 main_v199 (Host.negf : (⟨S4x16384x8192, .f32⟩ : BufTy).Contents (Elt F) → (⟨S4x16384x8192, .f32⟩ : BufTy).Contents (Elt F)),
    unary main_v199 main_v200 (Host.log : (⟨S4x16384x8192, .f32⟩ : BufTy).Contents (Elt F) → (⟨S4x16384x8192, .f32⟩ : BufTy).Contents (Elt F)),
    unary main_v200 main_v201 (Host.negf : (⟨S4x16384x8192, .f32⟩ : BufTy).Contents (Elt F) → (⟨S4x16384x8192, .f32⟩ : BufTy).Contents (Elt F)),
    unary main_arg2 main_v202 ((extractStridedSlice S1x8192x32 ![0, 0, 0] · slices_S4x8192x32_S1x8192x32_0_0_0) : (⟨S4x8192x32, .f32⟩ : BufTy).Contents (Elt F) → (⟨S1x8192x32, .f32⟩ : BufTy).Contents (Elt F)),
    reshape main_v202 main_v203 (rfl : (.f32 : EltTy) = .f32) shapeCasts_S1x8192x32_S8192x32,
    binary main_v2 main_v2 main_v204 (mulf : (⟨S16384x32, .f32⟩ : BufTy).Contents (Elt F) → (⟨S16384x32, .f32⟩ : BufTy).Contents (Elt F) → (⟨S16384x32, .f32⟩ : BufTy).Contents (Elt F)),
    nullary main_cst_48 (constant S_ .f32 0x00000000#32),
    binary main_v204 main_cst_48 main_v205 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v205 main_v206 (broadcastInDim S16384x1 ![0] bcast_S16384_S16384x1_0 : (⟨S16384, .f32⟩ : BufTy).Contents (Elt F) → (⟨S16384x1, .f32⟩ : BufTy).Contents (Elt F)),
    binary main_v203 main_v203 main_v207 (mulf : (⟨S8192x32, .f32⟩ : BufTy).Contents (Elt F) → (⟨S8192x32, .f32⟩ : BufTy).Contents (Elt F) → (⟨S8192x32, .f32⟩ : BufTy).Contents (Elt F)),
    nullary main_cst_49 (constant S_ .f32 0x00000000#32),
    binary main_v207 main_cst_49 main_v208 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v208 main_v209 (broadcastInDim S1x8192 ![1] bcast_S8192_S1x8192_1 : (⟨S8192, .f32⟩ : BufTy).Contents (Elt F) → (⟨S1x8192, .f32⟩ : BufTy).Contents (Elt F)),
    unary main_v206 main_v210 (broadcastInDim S16384x8192 ![0, 1] bcast_S16384x1_S16384x8192_0_1 : (⟨S16384x1, .f32⟩ : BufTy).Contents (Elt F) → (⟨S16384x8192, .f32⟩ : BufTy).Contents (Elt F)),
    unary main_v209 main_v211 (broadcastInDim S16384x8192 ![0, 1] bcast_S1x8192_S16384x8192_0_1 : (⟨S1x8192, .f32⟩ : BufTy).Contents (Elt F) → (⟨S16384x8192, .f32⟩ : BufTy).Contents (Elt F)),
    binary main_v210 main_v211 main_v212 (addf : (⟨S16384x8192, .f32⟩ : BufTy).Contents (Elt F) → (⟨S16384x8192, .f32⟩ : BufTy).Contents (Elt F) → (⟨S16384x8192, .f32⟩ : BufTy).Contents (Elt F)),
    nullary main_cst_50 (constant S_ .f32 0x40000000#32),
    unary main_cst_50 main_v213 (broadcastInDim S16384x32 ![] bcast_S_S16384x32 : (⟨S_, .f32⟩ : BufTy).Contents (Elt F) → (⟨S16384x32, .f32⟩ : BufTy).Contents (Elt F)),
    binary main_v213 main_v2 main_v214 (mulf : (⟨S16384x32, .f32⟩ : BufTy).Contents (Elt F) → (⟨S16384x32, .f32⟩ : BufTy).Contents (Elt F) → (⟨S16384x32, .f32⟩ : BufTy).Contents (Elt F)),
    unary main_v203 main_v215 ((transpose S32x8192 [1, 0] · transposes_S8192x32_S32x8192_1_0) : (⟨S8192x32, .f32⟩ : BufTy).Contents (Elt F) → (⟨S32x8192, .f32⟩ : BufTy).Contents (Elt F)),
    binary main_v214 main_v215 main_v216 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)) ]

/-- @main's operations 271 … 300 of 434 (window `main_part4`). -/
abbrev ops_part4_1 : List (HloOp τ sig (Elt F)) :=
  [ binary main_v212 main_v216 main_v217 (subf : (⟨S16384x8192, .f32⟩ : BufTy).Contents (Elt F) → (⟨S16384x8192, .f32⟩ : BufTy).Contents (Elt F) → (⟨S16384x8192, .f32⟩ : BufTy).Contents (Elt F)),
    unary main_v217 main_v218 (Host.negf : (⟨S16384x8192, .f32⟩ : BufTy).Contents (Elt F) → (⟨S16384x8192, .f32⟩ : BufTy).Contents (Elt F)),
    nullary main_cst_51 (constant S_ .f32 0x3F7FBE77#32),
    unary main_cst_51 main_v219 (broadcastInDim S16384x8192 ![] bcast_S_S16384x8192 : (⟨S_, .f32⟩ : BufTy).Contents (Elt F) → (⟨S16384x8192, .f32⟩ : BufTy).Contents (Elt F)),
    binary main_v218 main_v219 main_v220 (Host.divf : (⟨S16384x8192, .f32⟩ : BufTy).Contents (Elt F) → (⟨S16384x8192, .f32⟩ : BufTy).Contents (Elt F) → (⟨S16384x8192, .f32⟩ : BufTy).Contents (Elt F)),
    unary main_v201 main_v221 ((extractStridedSlice S1x16384x8192 ![0, 0, 0] · slices_S4x16384x8192_S1x16384x8192_0_0_0) : (⟨S4x16384x8192, .f32⟩ : BufTy).Contents (Elt F) → (⟨S1x16384x8192, .f32⟩ : BufTy).Contents (Elt F)),
    reshape main_v221 main_v222 (rfl : (.f32 : EltTy) = .f32) shapeCasts_S1x16384x8192_S16384x8192,
    binary main_v222 main_v220 main_v223 (addf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call0_v0) (iotaInDim S16384x8192 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x8192, .f32⟩) main_v223) (TRef.of (T := ⟨S16384x8192, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x8192_S16384_d1 h_S_ j).1),
    TRef.quaternary (TRef.of (T := ⟨S16384x8192, .f32⟩) main_v223) (TRef.of (T := ⟨S16384x8192, .i32⟩) main_call0_v0) (TRef.of (T := ⟨S_, .f32⟩) main_call0_cst) (TRef.of (T := ⟨S_, .i32⟩) main_call0_c) (TRef.of (T := ⟨S16384, .i32⟩) main_v224) (fun x y u v j => (Host.argReduce reducer_argmax_f32_i32 x y u v reducesTo_S16384x8192_S16384_d1 h_S_ j).2),
    TRef.unary (TRef.of (T := ⟨S16384, .i32⟩) main_v224) (TRef.of (T := ⟨S16384x1, .i32⟩) main_call1_v0) (broadcastInDim S16384x1 ![0] bcast_S16384_S16384x1_0),
    TRef.binary (TRef.of (T := ⟨S8192x32, .f32⟩) main_v203) (TRef.of (T := ⟨S16384x1, .i32⟩) main_call1_v0) (TRef.of (T := ⟨S16384x32, .f32⟩) main_v225) (fun x i => Host.gather gather_S8192x32_S16384x1_S16384x32_1_0_n_n_0_1_132 x i),
    binary main_v2 main_v225 main_v226 (subf : (⟨S16384x32, .f32⟩ : BufTy).Contents (Elt F) → (⟨S16384x32, .f32⟩ : BufTy).Contents (Elt F) → (⟨S16384x32, .f32⟩ : BufTy).Contents (Elt F)),
    unary main_arg2 main_v227 ((extractStridedSlice S1x8192x32 ![1, 0, 0] · slices_S4x8192x32_S1x8192x32_1_0_0) : (⟨S4x8192x32, .f32⟩ : BufTy).Contents (Elt F) → (⟨S1x8192x32, .f32⟩ : BufTy).Contents (Elt F)),
    reshape main_v227 main_v228 (rfl : (.f32 : EltTy) = .f32) shapeCasts_S1x8192x32_S8192x32,
    binary main_v226 main_v226 main_v229 (mulf : (⟨S16384x32, .f32⟩ : BufTy).Contents (Elt F) → (⟨S16384x32, .f32⟩ : BufTy).Contents (Elt F) → (⟨S16384x32, .f32⟩ : BufTy).Contents (Elt F)),
    nullary main_cst_52 (constant S_ .f32 0x00000000#32),
    binary main_v229 main_cst_52 main_v230 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v230 main_v231 (broadcastInDim S16384x1 ![0] bcast_S16384_S16384x1_0 : (⟨S16384, .f32⟩ : BufTy).Contents (Elt F) → (⟨S16384x1, .f32⟩ : BufTy).Contents (Elt F)),
    binary main_v228 main_v228 main_v232 (mulf : (⟨S8192x32, .f32⟩ : BufTy).Contents (Elt F) → (⟨S8192x32, .f32⟩ : BufTy).Contents (Elt F) → (⟨S8192x32, .f32⟩ : BufTy).Contents (Elt F)),
    nullary main_cst_53 (constant S_ .f32 0x00000000#32),
    binary main_v232 main_cst_53 main_v233 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v233 main_v234 (broadcastInDim S1x8192 ![1] bcast_S8192_S1x8192_1 : (⟨S8192, .f32⟩ : BufTy).Contents (Elt F) → (⟨S1x8192, .f32⟩ : BufTy).Contents (Elt F)),
    unary main_v231 main_v235 (broadcastInDim S16384x8192 ![0, 1] bcast_S16384x1_S16384x8192_0_1 : (⟨S16384x1, .f32⟩ : BufTy).Contents (Elt F) → (⟨S16384x8192, .f32⟩ : BufTy).Contents (Elt F)),
    unary main_v234 main_v236 (broadcastInDim S16384x8192 ![0, 1] bcast_S1x8192_S16384x8192_0_1 : (⟨S1x8192, .f32⟩ : BufTy).Contents (Elt F) → (⟨S16384x8192, .f32⟩ : BufTy).Contents (Elt F)),
    binary main_v235 main_v236 main_v237 (addf : (⟨S16384x8192, .f32⟩ : BufTy).Contents (Elt F) → (⟨S16384x8192, .f32⟩ : BufTy).Contents (Elt F) → (⟨S16384x8192, .f32⟩ : BufTy).Contents (Elt F)),
    nullary main_cst_54 (constant S_ .f32 0x40000000#32) ]

/-- @main's operations 301 … 305 of 434 (window `main_part4`). -/
abbrev ops_part4_2 : List (HloOp τ sig (Elt F)) :=
  [ unary main_cst_54 main_v238 (broadcastInDim S16384x32 ![] bcast_S_S16384x32 : (⟨S_, .f32⟩ : BufTy).Contents (Elt F) → (⟨S16384x32, .f32⟩ : BufTy).Contents (Elt F)),
    binary main_v238 main_v226 main_v239 (mulf : (⟨S16384x32, .f32⟩ : BufTy).Contents (Elt F) → (⟨S16384x32, .f32⟩ : BufTy).Contents (Elt F) → (⟨S16384x32, .f32⟩ : BufTy).Contents (Elt F)),
    unary main_v228 main_v240 ((transpose S32x8192 [1, 0] · transposes_S8192x32_S32x8192_1_0) : (⟨S8192x32, .f32⟩ : BufTy).Contents (Elt F) → (⟨S32x8192, .f32⟩ : BufTy).Contents (Elt F)),
    binary main_v239 main_v240 main_v241 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    binary main_v237 main_v241 main_v242 (subf : (⟨S16384x8192, .f32⟩ : BufTy).Contents (Elt F) → (⟨S16384x8192, .f32⟩ : BufTy).Contents (Elt F) → (⟨S16384x8192, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 306 … 335 of 434 (window `main_part5`). -/
abbrev ops_part5_0 : List (HloOp τ sig (Elt F)) :=
  [ unary main_v242 main_v243 (Host.negf : (⟨S16384x8192, .f32⟩ : BufTy).Contents (Elt F) → (⟨S16384x8192, .f32⟩ : BufTy).Contents (Elt F)),
    nullary main_cst_55 (constant S_ .f32 0x3F7FBE77#32),
    unary main_cst_55 main_v244 (broadcastInDim S16384x8192 ![] bcast_S_S16384x8192 : (⟨S_, .f32⟩ : BufTy).Contents (Elt F) → (⟨S16384x8192, .f32⟩ : BufTy).Contents (Elt F)),
    binary main_v243 main_v244 main_v245 (Host.divf : (⟨S16384x8192, .f32⟩ : BufTy).Contents (Elt F) → (⟨S16384x8192, .f32⟩ : BufTy).Contents (Elt F) → (⟨S16384x8192, .f32⟩ : BufTy).Contents (Elt F)),
    unary main_v201 main_v246 ((extractStridedSlice S1x16384x8192 ![1, 0, 0] · slices_S4x16384x8192_S1x16384x8192_1_0_0) : (⟨S4x16384x8192, .f32⟩ : BufTy).Contents (Elt F) → (⟨S1x16384x8192, .f32⟩ : BufTy).Contents (Elt F)),
    reshape main_v246 main_v247 (rfl : (.f32 : EltTy) = .f32) shapeCasts_S1x16384x8192_S16384x8192,
    binary main_v247 main_v245 main_v248 (addf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call2_v0) (iotaInDim S16384x8192 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16384x8192, .f32⟩) main_v248) (TRef.of (T := ⟨S16384x8192, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmax_f32_i32 x y u v reducesTo_S16384x8192_S16384_d1 h_S_ j).1),
    TRef.quaternary (TRef.of (T := ⟨S16384x8192, .f32⟩) main_v248) (TRef.of (T := ⟨S16384x8192, .i32⟩) main_call2_v0) (TRef.of (T := ⟨S_, .f32⟩) main_call2_cst) (TRef.of (T := ⟨S_, .i32⟩) main_call2_c) (TRef.of (T := ⟨S16384, .i32⟩) main_v249) (fun x y u v j => (Host.argReduce reducer_argmax_f32_i32 x y u v reducesTo_S16384x8192_S16384_d1 h_S_ j).2),
    TRef.unary (TRef.of (T := ⟨S16384, .i32⟩) main_v249) (TRef.of (T := ⟨S16384x1, .i32⟩) main_call3_v0) (broadcastInDim S16384x1 ![0] bcast_S16384_S16384x1_0),
    TRef.binary (TRef.of (T := ⟨S8192x32, .f32⟩) main_v228) (TRef.of (T := ⟨S16384x1, .i32⟩) main_call3_v0) (TRef.of (T := ⟨S16384x32, .f32⟩) main_v250) (fun x i => Host.gather gather_S8192x32_S16384x1_S16384x32_1_0_n_n_0_1_132 x i),
    binary main_v226 main_v250 main_v251 (subf : (⟨S16384x32, .f32⟩ : BufTy).Contents (Elt F) → (⟨S16384x32, .f32⟩ : BufTy).Contents (Elt F) → (⟨S16384x32, .f32⟩ : BufTy).Contents (Elt F)),
    unary main_arg2 main_v252 ((extractStridedSlice S1x8192x32 ![2, 0, 0] · slices_S4x8192x32_S1x8192x32_2_0_0) : (⟨S4x8192x32, .f32⟩ : BufTy).Contents (Elt F) → (⟨S1x8192x32, .f32⟩ : BufTy).Contents (Elt F)),
    reshape main_v252 main_v253 (rfl : (.f32 : EltTy) = .f32) shapeCasts_S1x8192x32_S8192x32,
    binary main_v251 main_v251 main_v254 (mulf : (⟨S16384x32, .f32⟩ : BufTy).Contents (Elt F) → (⟨S16384x32, .f32⟩ : BufTy).Contents (Elt F) → (⟨S16384x32, .f32⟩ : BufTy).Contents (Elt F)),
    nullary main_cst_56 (constant S_ .f32 0x00000000#32),
    binary main_v254 main_cst_56 main_v255 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v255 main_v256 (broadcastInDim S16384x1 ![0] bcast_S16384_S16384x1_0 : (⟨S16384, .f32⟩ : BufTy).Contents (Elt F) → (⟨S16384x1, .f32⟩ : BufTy).Contents (Elt F)),
    binary main_v253 main_v253 main_v257 (mulf : (⟨S8192x32, .f32⟩ : BufTy).Contents (Elt F) → (⟨S8192x32, .f32⟩ : BufTy).Contents (Elt F) → (⟨S8192x32, .f32⟩ : BufTy).Contents (Elt F)),
    nullary main_cst_57 (constant S_ .f32 0x00000000#32),
    binary main_v257 main_cst_57 main_v258 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v258 main_v259 (broadcastInDim S1x8192 ![1] bcast_S8192_S1x8192_1 : (⟨S8192, .f32⟩ : BufTy).Contents (Elt F) → (⟨S1x8192, .f32⟩ : BufTy).Contents (Elt F)),
    unary main_v256 main_v260 (broadcastInDim S16384x8192 ![0, 1] bcast_S16384x1_S16384x8192_0_1 : (⟨S16384x1, .f32⟩ : BufTy).Contents (Elt F) → (⟨S16384x8192, .f32⟩ : BufTy).Contents (Elt F)),
    unary main_v259 main_v261 (broadcastInDim S16384x8192 ![0, 1] bcast_S1x8192_S16384x8192_0_1 : (⟨S1x8192, .f32⟩ : BufTy).Contents (Elt F) → (⟨S16384x8192, .f32⟩ : BufTy).Contents (Elt F)),
    binary main_v260 main_v261 main_v262 (addf : (⟨S16384x8192, .f32⟩ : BufTy).Contents (Elt F) → (⟨S16384x8192, .f32⟩ : BufTy).Contents (Elt F) → (⟨S16384x8192, .f32⟩ : BufTy).Contents (Elt F)),
    nullary main_cst_58 (constant S_ .f32 0x40000000#32),
    unary main_cst_58 main_v263 (broadcastInDim S16384x32 ![] bcast_S_S16384x32 : (⟨S_, .f32⟩ : BufTy).Contents (Elt F) → (⟨S16384x32, .f32⟩ : BufTy).Contents (Elt F)) ]

/-- @main's operations 336 … 365 of 434 (window `main_part5`). -/
abbrev ops_part5_1 : List (HloOp τ sig (Elt F)) :=
  [ binary main_v263 main_v251 main_v264 (mulf : (⟨S16384x32, .f32⟩ : BufTy).Contents (Elt F) → (⟨S16384x32, .f32⟩ : BufTy).Contents (Elt F) → (⟨S16384x32, .f32⟩ : BufTy).Contents (Elt F)),
    unary main_v253 main_v265 ((transpose S32x8192 [1, 0] · transposes_S8192x32_S32x8192_1_0) : (⟨S8192x32, .f32⟩ : BufTy).Contents (Elt F) → (⟨S32x8192, .f32⟩ : BufTy).Contents (Elt F)),
    binary main_v264 main_v265 main_v266 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    binary main_v262 main_v266 main_v267 (subf : (⟨S16384x8192, .f32⟩ : BufTy).Contents (Elt F) → (⟨S16384x8192, .f32⟩ : BufTy).Contents (Elt F) → (⟨S16384x8192, .f32⟩ : BufTy).Contents (Elt F)),
    unary main_v267 main_v268 (Host.negf : (⟨S16384x8192, .f32⟩ : BufTy).Contents (Elt F) → (⟨S16384x8192, .f32⟩ : BufTy).Contents (Elt F)),
    nullary main_cst_59 (constant S_ .f32 0x3F7FBE77#32),
    unary main_cst_59 main_v269 (broadcastInDim S16384x8192 ![] bcast_S_S16384x8192 : (⟨S_, .f32⟩ : BufTy).Contents (Elt F) → (⟨S16384x8192, .f32⟩ : BufTy).Contents (Elt F)),
    binary main_v268 main_v269 main_v270 (Host.divf : (⟨S16384x8192, .f32⟩ : BufTy).Contents (Elt F) → (⟨S16384x8192, .f32⟩ : BufTy).Contents (Elt F) → (⟨S16384x8192, .f32⟩ : BufTy).Contents (Elt F)),
    unary main_v201 main_v271 ((extractStridedSlice S1x16384x8192 ![2, 0, 0] · slices_S4x16384x8192_S1x16384x8192_2_0_0) : (⟨S4x16384x8192, .f32⟩ : BufTy).Contents (Elt F) → (⟨S1x16384x8192, .f32⟩ : BufTy).Contents (Elt F)),
    reshape main_v271 main_v272 (rfl : (.f32 : EltTy) = .f32) shapeCasts_S1x16384x8192_S16384x8192,
    binary main_v272 main_v270 main_v273 (addf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call4_v0) (iotaInDim S16384x8192 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S16384x8192, .f32⟩) main_v273) (TRef.of (T := ⟨S16384x8192, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmax_f32_i32 x y u v reducesTo_S16384x8192_S16384_d1 h_S_ j).1),
    TRef.quaternary (TRef.of (T := ⟨S16384x8192, .f32⟩) main_v273) (TRef.of (T := ⟨S16384x8192, .i32⟩) main_call4_v0) (TRef.of (T := ⟨S_, .f32⟩) main_call4_cst) (TRef.of (T := ⟨S_, .i32⟩) main_call4_c) (TRef.of (T := ⟨S16384, .i32⟩) main_v274) (fun x y u v j => (Host.argReduce reducer_argmax_f32_i32 x y u v reducesTo_S16384x8192_S16384_d1 h_S_ j).2),
    TRef.unary (TRef.of (T := ⟨S16384, .i32⟩) main_v274) (TRef.of (T := ⟨S16384x1, .i32⟩) main_call5_v0) (broadcastInDim S16384x1 ![0] bcast_S16384_S16384x1_0),
    TRef.binary (TRef.of (T := ⟨S8192x32, .f32⟩) main_v253) (TRef.of (T := ⟨S16384x1, .i32⟩) main_call5_v0) (TRef.of (T := ⟨S16384x32, .f32⟩) main_v275) (fun x i => Host.gather gather_S8192x32_S16384x1_S16384x32_1_0_n_n_0_1_132 x i),
    binary main_v251 main_v275 main_v276 (subf : (⟨S16384x32, .f32⟩ : BufTy).Contents (Elt F) → (⟨S16384x32, .f32⟩ : BufTy).Contents (Elt F) → (⟨S16384x32, .f32⟩ : BufTy).Contents (Elt F)),
    unary main_arg2 main_v277 ((extractStridedSlice S1x8192x32 ![3, 0, 0] · slices_S4x8192x32_S1x8192x32_3_0_0) : (⟨S4x8192x32, .f32⟩ : BufTy).Contents (Elt F) → (⟨S1x8192x32, .f32⟩ : BufTy).Contents (Elt F)),
    reshape main_v277 main_v278 (rfl : (.f32 : EltTy) = .f32) shapeCasts_S1x8192x32_S8192x32,
    binary main_v276 main_v276 main_v279 (mulf : (⟨S16384x32, .f32⟩ : BufTy).Contents (Elt F) → (⟨S16384x32, .f32⟩ : BufTy).Contents (Elt F) → (⟨S16384x32, .f32⟩ : BufTy).Contents (Elt F)),
    nullary main_cst_60 (constant S_ .f32 0x00000000#32),
    binary main_v279 main_cst_60 main_v280 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v280 main_v281 (broadcastInDim S16384x1 ![0] bcast_S16384_S16384x1_0 : (⟨S16384, .f32⟩ : BufTy).Contents (Elt F) → (⟨S16384x1, .f32⟩ : BufTy).Contents (Elt F)),
    binary main_v278 main_v278 main_v282 (mulf : (⟨S8192x32, .f32⟩ : BufTy).Contents (Elt F) → (⟨S8192x32, .f32⟩ : BufTy).Contents (Elt F) → (⟨S8192x32, .f32⟩ : BufTy).Contents (Elt F)),
    nullary main_cst_61 (constant S_ .f32 0x00000000#32),
    binary main_v282 main_cst_61 main_v283 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v283 main_v284 (broadcastInDim S1x8192 ![1] bcast_S8192_S1x8192_1 : (⟨S8192, .f32⟩ : BufTy).Contents (Elt F) → (⟨S1x8192, .f32⟩ : BufTy).Contents (Elt F)),
    unary main_v281 main_v285 (broadcastInDim S16384x8192 ![0, 1] bcast_S16384x1_S16384x8192_0_1 : (⟨S16384x1, .f32⟩ : BufTy).Contents (Elt F) → (⟨S16384x8192, .f32⟩ : BufTy).Contents (Elt F)) ]

/-- @main's operations 366 … 375 of 434 (window `main_part5`). -/
abbrev ops_part5_2 : List (HloOp τ sig (Elt F)) :=
  [ unary main_v284 main_v286 (broadcastInDim S16384x8192 ![0, 1] bcast_S1x8192_S16384x8192_0_1 : (⟨S1x8192, .f32⟩ : BufTy).Contents (Elt F) → (⟨S16384x8192, .f32⟩ : BufTy).Contents (Elt F)),
    binary main_v285 main_v286 main_v287 (addf : (⟨S16384x8192, .f32⟩ : BufTy).Contents (Elt F) → (⟨S16384x8192, .f32⟩ : BufTy).Contents (Elt F) → (⟨S16384x8192, .f32⟩ : BufTy).Contents (Elt F)),
    nullary main_cst_62 (constant S_ .f32 0x40000000#32),
    unary main_cst_62 main_v288 (broadcastInDim S16384x32 ![] bcast_S_S16384x32 : (⟨S_, .f32⟩ : BufTy).Contents (Elt F) → (⟨S16384x32, .f32⟩ : BufTy).Contents (Elt F)),
    binary main_v288 main_v276 main_v289 (mulf : (⟨S16384x32, .f32⟩ : BufTy).Contents (Elt F) → (⟨S16384x32, .f32⟩ : BufTy).Contents (Elt F) → (⟨S16384x32, .f32⟩ : BufTy).Contents (Elt F)),
    unary main_v278 main_v290 ((transpose S32x8192 [1, 0] · transposes_S8192x32_S32x8192_1_0) : (⟨S8192x32, .f32⟩ : BufTy).Contents (Elt F) → (⟨S32x8192, .f32⟩ : BufTy).Contents (Elt F)),
    binary main_v289 main_v290 main_v291 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    binary main_v287 main_v291 main_v292 (subf : (⟨S16384x8192, .f32⟩ : BufTy).Contents (Elt F) → (⟨S16384x8192, .f32⟩ : BufTy).Contents (Elt F) → (⟨S16384x8192, .f32⟩ : BufTy).Contents (Elt F)),
    unary main_v292 main_v293 (Host.negf : (⟨S16384x8192, .f32⟩ : BufTy).Contents (Elt F) → (⟨S16384x8192, .f32⟩ : BufTy).Contents (Elt F)),
    nullary main_cst_63 (constant S_ .f32 0x3F7FBE77#32) ]

/-- Window `main_part5`'s operations. Not an abbreviation: `main_eq` below splits `ops` into the windows and no further. -/
def ops_part5 : List (HloOp τ sig (Elt F)) :=
  ops_part5_0 ++ (ops_part5_1 ++ (ops_part5_2))

/-- @main's operations 376 … 434 of 434 (window `main_part6`). -/
abbrev ops_part6 : List (HloOp τ sig (Elt F)) :=
  [ unary main_cst_63 main_v294 (broadcastInDim S16384x8192 ![] bcast_S_S16384x8192 : (⟨S_, .f32⟩ : BufTy).Contents (Elt F) → (⟨S16384x8192, .f32⟩ : BufTy).Contents (Elt F)),
    binary main_v293 main_v294 main_v295 (Host.divf : (⟨S16384x8192, .f32⟩ : BufTy).Contents (Elt F) → (⟨S16384x8192, .f32⟩ : BufTy).Contents (Elt F) → (⟨S16384x8192, .f32⟩ : BufTy).Contents (Elt F)),
    unary main_v201 main_v296 ((extractStridedSlice S1x16384x8192 ![3, 0, 0] · slices_S4x16384x8192_S1x16384x8192_3_0_0) : (⟨S4x16384x8192, .f32⟩ : BufTy).Contents (Elt F) → (⟨S1x16384x8192, .f32⟩ : BufTy).Contents (Elt F)),
    reshape main_v296 main_v297 (rfl : (.f32 : EltTy) = .f32) shapeCasts_S1x16384x8192_S16384x8192,
    binary main_v297 main_v295 main_v298 (addf : (⟨S16384x8192, .f32⟩ : BufTy).Contents (Elt F) → (⟨S16384x8192, .f32⟩ : BufTy).Contents (Elt F) → (⟨S16384x8192, .f32⟩ : BufTy).Contents (Elt F)),
    TRef.nullary (TRef.of (T := ⟨S16384x8192, .i32⟩) main_call6_v0) (iotaInDim S16384x8192 32 1),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S16384x8192, .f32⟩) main_v298) (TRef.of (T := ⟨S16384x8192, .i32⟩) main_call6_v0) (TRef.of (T := ⟨S_, .f32⟩) main_call6_cst) (TRef.of (T := ⟨S_, .i32⟩) main_call6_c) (TRef.of (T := ⟨S16384, .f32⟩) main_call6_v1_0) (fun x y u v j => (Host.argReduce reducer_argmax_f32_i32 x y u v reducesTo_S16384x8192_S16384_d1 h_S_ j).1),
    TRef.quaternary (TRef.of (T := ⟨S16384x8192, .f32⟩) main_v298) (TRef.of (T := ⟨S16384x8192, .i32⟩) main_call6_v0) (TRef.of (T := ⟨S_, .f32⟩) main_call6_cst) (TRef.of (T := ⟨S_, .i32⟩) main_call6_c) (TRef.of (T := ⟨S16384, .i32⟩) main_v299) (fun x y u v j => (Host.argReduce reducer_argmax_f32_i32 x y u v reducesTo_S16384x8192_S16384_d1 h_S_ j).2),
    TRef.unary (TRef.of (T := ⟨S16384, .i32⟩) main_v299) (TRef.of (T := ⟨S16384x1, .i32⟩) main_call7_v0) (broadcastInDim S16384x1 ![0] bcast_S16384_S16384x1_0),
    TRef.binary (TRef.of (T := ⟨S8192x32, .f32⟩) main_v278) (TRef.of (T := ⟨S16384x1, .i32⟩) main_call7_v0) (TRef.of (T := ⟨S16384x32, .f32⟩) main_v300) (fun x i => Host.gather gather_S8192x32_S16384x1_S16384x32_1_0_n_n_0_1_132 x i),
    binary main_v276 main_v300 main_v301 (subf : (⟨S16384x32, .f32⟩ : BufTy).Contents (Elt F) → (⟨S16384x32, .f32⟩ : BufTy).Contents (Elt F) → (⟨S16384x32, .f32⟩ : BufTy).Contents (Elt F)),
    unary main_v225 main_v302 (broadcastInDim S1x16384x32 ![1, 2] bcast_S16384x32_S1x16384x32_1_2 : (⟨S16384x32, .f32⟩ : BufTy).Contents (Elt F) → (⟨S1x16384x32, .f32⟩ : BufTy).Contents (Elt F)),
    unary main_v250 main_v303 (broadcastInDim S1x16384x32 ![1, 2] bcast_S16384x32_S1x16384x32_1_2 : (⟨S16384x32, .f32⟩ : BufTy).Contents (Elt F) → (⟨S1x16384x32, .f32⟩ : BufTy).Contents (Elt F)),
    unary main_v275 main_v304 (broadcastInDim S1x16384x32 ![1, 2] bcast_S16384x32_S1x16384x32_1_2 : (⟨S16384x32, .f32⟩ : BufTy).Contents (Elt F) → (⟨S1x16384x32, .f32⟩ : BufTy).Contents (Elt F)),
    unary main_v300 main_v305 (broadcastInDim S1x16384x32 ![1, 2] bcast_S16384x32_S1x16384x32_1_2 : (⟨S16384x32, .f32⟩ : BufTy).Contents (Elt F) → (⟨S1x16384x32, .f32⟩ : BufTy).Contents (Elt F)),
    nary ![main_v302, main_v303, main_v304, main_v305] main_v306 (fun u => fn_main_v306 (F := F) (u 0) (u 1) (u 2) (u 3)),
    nullary main_cst_64 (constant S_ .f32 0x00000000#32),
    binary main_v306 main_cst_64 main_v307 ((fun x v => Host.reduceAdd x v reducesTo_S4x16384x32_S16384x32_d0 h_S_) : (⟨S4x16384x32, .f32⟩ : BufTy).Contents (Elt F) → (⟨S_, .f32⟩ : BufTy).Contents (Elt F) → (⟨S16384x32, .f32⟩ : BufTy).Contents (Elt F)),
    reshape main_v307 main_v308 (rfl : (.f32 : EltTy) = .f32) shapeCasts_S16384x32_S16x32x32x32,
    binary main_v308 main_arg0 main_v309 (subf : (⟨S16x32x32x32, .f32⟩ : BufTy).Contents (Elt F) → (⟨S16x32x32x32, .f32⟩ : BufTy).Contents (Elt F) → (⟨S16x32x32x32, .f32⟩ : BufTy).Contents (Elt F)),
    binary main_v309 main_v309 main_v310 (mulf : (⟨S16x32x32x32, .f32⟩ : BufTy).Contents (Elt F) → (⟨S16x32x32x32, .f32⟩ : BufTy).Contents (Elt F) → (⟨S16x32x32x32, .f32⟩ : BufTy).Contents (Elt F)),
    nullary main_cst_65 (constant S_ .f32 0x00000000#32),
    binary main_v310 main_cst_65 main_v311 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
    nullary main_cst_66 (constant S_ .f32 0x49000000#32),
    binary main_v311 main_cst_66 main_v312 (Host.divf : (⟨S_, .f32⟩ : BufTy).Contents (Elt F) → (⟨S_, .f32⟩ : BufTy).Contents (Elt F) → (⟨S_, .f32⟩ : BufTy).Contents (Elt F)),
    nullary main_cst_67 (constant S_ .f32 0x3E800000#32),
    binary main_cst_67 main_v312 main_v313 (mulf : (⟨S_, .f32⟩ : BufTy).Contents (Elt F) → (⟨S_, .f32⟩ : BufTy).Contents (Elt F) → (⟨S_, .f32⟩ : BufTy).Contents (Elt F)),
    binary main_v308 main_arg0 main_v314 (subf : (⟨S16x32x32x32, .f32⟩ : BufTy).Contents (Elt F) → (⟨S16x32x32x32, .f32⟩ : BufTy).Contents (Elt F) → (⟨S16x32x32x32, .f32⟩ : BufTy).Contents (Elt F)),
    binary main_v314 main_v314 main_v315 (mulf : (⟨S16x32x32x32, .f32⟩ : BufTy).Contents (Elt F) → (⟨S16x32x32x32, .f32⟩ : BufTy).Contents (Elt F) → (⟨S16x32x32x32, .f32⟩ : BufTy).Contents (Elt F)),
    nullary main_cst_68 (constant S_ .f32 0x00000000#32),
    binary main_v315 main_cst_68 main_v316 ((fun x v => Host.reduceAdd x v reducesTo_S16x32x32x32_S_d0_1_2_3 h_S_) : (⟨S16x32x32x32, .f32⟩ : BufTy).Contents (Elt F) → (⟨S_, .f32⟩ : BufTy).Contents (Elt F) → (⟨S_, .f32⟩ : BufTy).Contents (Elt F)),
    nullary main_cst_69 (constant S_ .f32 0x49000000#32),
    binary main_v316 main_cst_69 main_v317 (Host.divf : (⟨S_, .f32⟩ : BufTy).Contents (Elt F) → (⟨S_, .f32⟩ : BufTy).Contents (Elt F) → (⟨S_, .f32⟩ : BufTy).Contents (Elt F)),
    nary ![main_v224, main_v249, main_v274, main_v299] main_v318 (fun u => fn_main_v318 (F := F) (u 0) (u 1) (u 2) (u 3)),
    unary main_v318 main_v319 (sitofp .f32 : (⟨S65536, .i32⟩ : BufTy).Contents (Elt F) → (⟨S65536, .f32⟩ : BufTy).Contents (Elt F)),
    nullary main_cst_70 (constant S_ .f32 0x00000000#32),
    binary main_v319 main_cst_70 main_v320 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_71 (constant S_ .f32 0x47800000#32),
    binary main_v320 main_cst_71 main_v321 (Host.divf : (⟨S_, .f32⟩ : BufTy).Contents (Elt F) → (⟨S_, .f32⟩ : BufTy).Contents (Elt F) → (⟨S_, .f32⟩ : BufTy).Contents (Elt F)),
    nullary main_cst_72 (constant S_ .f32 0x2EDBE6FF#32),
    binary main_v321 main_cst_72 main_v322 (addf : (⟨S_, .f32⟩ : BufTy).Contents (Elt F) → (⟨S_, .f32⟩ : BufTy).Contents (Elt F) → (⟨S_, .f32⟩ : BufTy).Contents (Elt F)),
    unary main_v322 main_v323 (Host.log : (⟨S_, .f32⟩ : BufTy).Contents (Elt F) → (⟨S_, .f32⟩ : BufTy).Contents (Elt F)),
    binary main_v321 main_v323 main_v324 (mulf : (⟨S_, .f32⟩ : BufTy).Contents (Elt F) → (⟨S_, .f32⟩ : BufTy).Contents (Elt F) → (⟨S_, .f32⟩ : BufTy).Contents (Elt F)),
    nullary main_cst_73 (constant S_ .f32 0x00000000#32),
    binary main_v324 main_cst_73 main_v325 ((fun x v => Host.reduceAdd x v reducesTo_S_S_d h_S_) : (⟨S_, .f32⟩ : BufTy).Contents (Elt F) → (⟨S_, .f32⟩ : BufTy).Contents (Elt F) → (⟨S_, .f32⟩ : BufTy).Contents (Elt F)),
    unary main_v325 main_v326 (Host.negf : (⟨S_, .f32⟩ : BufTy).Contents (Elt F) → (⟨S_, .f32⟩ : BufTy).Contents (Elt F)),
    nullary main_cst_74 (constant S_ .f32 0x3F800000#32),
    binary main_v326 main_cst_74 main_v327 (mulf : (⟨S_, .f32⟩ : BufTy).Contents (Elt F) → (⟨S_, .f32⟩ : BufTy).Contents (Elt F) → (⟨S_, .f32⟩ : BufTy).Contents (Elt F)),
    binary main_v317 main_v313 main_v328 (addf : (⟨S_, .f32⟩ : BufTy).Contents (Elt F) → (⟨S_, .f32⟩ : BufTy).Contents (Elt F) → (⟨S_, .f32⟩ : BufTy).Contents (Elt F)),
    binary main_v328 main_v327 main_v329 (addf : (⟨S_, .f32⟩ : BufTy).Contents (Elt F) → (⟨S_, .f32⟩ : BufTy).Contents (Elt F) → (⟨S_, .f32⟩ : BufTy).Contents (Elt F)),
    binary main_v308 main_arg0 main_v330 (subf : (⟨S16x32x32x32, .f32⟩ : BufTy).Contents (Elt F) → (⟨S16x32x32x32, .f32⟩ : BufTy).Contents (Elt F) → (⟨S16x32x32x32, .f32⟩ : BufTy).Contents (Elt F)),
    binary main_arg0 main_v330 main_v331 (addf : (⟨S16x32x32x32, .f32⟩ : BufTy).Contents (Elt F) → (⟨S16x32x32x32, .f32⟩ : BufTy).Contents (Elt F) → (⟨S16x32x32x32, .f32⟩ : BufTy).Contents (Elt F)),
    unary main_v224 main_v332 (broadcastInDim S1x16384 ![1] bcast_S16384_S1x16384_1 : (⟨S16384, .i32⟩ : BufTy).Contents (Elt F) → (⟨S1x16384, .i32⟩ : BufTy).Contents (Elt F)),
    unary main_v249 main_v333 (broadcastInDim S1x16384 ![1] bcast_S16384_S1x16384_1 : (⟨S16384, .i32⟩ : BufTy).Contents (Elt F) → (⟨S1x16384, .i32⟩ : BufTy).Contents (Elt F)),
    unary main_v274 main_v334 (broadcastInDim S1x16384 ![1] bcast_S16384_S1x16384_1 : (⟨S16384, .i32⟩ : BufTy).Contents (Elt F) → (⟨S1x16384, .i32⟩ : BufTy).Contents (Elt F)),
    unary main_v299 main_v335 (broadcastInDim S1x16384 ![1] bcast_S16384_S1x16384_1 : (⟨S16384, .i32⟩ : BufTy).Contents (Elt F) → (⟨S1x16384, .i32⟩ : BufTy).Contents (Elt F)),
    nary ![main_v332, main_v333, main_v334, main_v335] main_v336 (fun u => fn_main_v336 (F := F) (u 0) (u 1) (u 2) (u 3)) ]

/-- @main's 434 operations, in order (a called function's operations stand in its call's place, spelt `TRef.…`). -/
abbrev ops : List (HloOp τ sig (Elt F)) :=
  ops_part0 ++ (ops_part1 ++ (ops_part2 ++ (ops_part3 ++ (ops_part4 ++ (ops_part5 ++ (ops_part6))))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
theorem main_part6_eq (c : Dev nD) : main_part6 (F := F) c = seq ops_part6 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., reshape_bufs_sub .., binary_bufs_sub .., nullary_bufs_sub .., reshape_bufs_sub .., unary_bufs_sub .., reshape_bufs_sub .., reshape_bufs_sub .., unary_bufs_sub .., reshape_bufs_sub .., reshape_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨binary_bufs_sub .., nullary_bufs_sub .., unary_bufs_sub .., binary_bufs_sub .., binary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_0_sub : (ops_part4_0 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨binary_bufs_sub .., unary_bufs_sub .., nullary_bufs_sub .., unary_bufs_sub .., binary_bufs_sub .., unary_bufs_sub .., reshape_bufs_sub .., binary_bufs_sub .., nullary_bufs_sub .., nullary_bufs_sub .., nullary_bufs_sub .., quaternary_bufs_sub .., quaternary_bufs_sub .., unary_bufs_sub .., binary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨unary_bufs_sub .., binary_bufs_sub .., unary_bufs_sub .., binary_bufs_sub .., binary_bufs_sub ..⟩
set_option maxRecDepth 8192 in
theorem ops_part4_2_fresh : (ops_part4_2 : List (HloOp τ sig (Elt F))).Forall fun op => op.fresh = ∅ :=
  ⟨rfl, rfl, rfl, rfl, rfl⟩
set_option maxRecDepth 8192 in
theorem ops_part5_0_sub : (ops_part5_0 : List (HloOp τ sig (Elt F))).Forall fun op => op.bufs ⊆ tcRefs τ sig :=
  ⟨unary_bufs_sub .., nullary_bufs_sub .., unary_bufs_sub .., binary_bufs_sub .., unary_bufs_sub .., reshape_bufs_sub .., binary_bufs_sub .., nullary_bufs_sub .., nullary_bufs_sub .., nullary_bufs_sub .., quaternary_bufs_sub .., quaternary_bufs_sub .., unary_bufs_sub .., binary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub ..⟩
set_option maxRecDepth 8192 in
theorem ops_part5_0_fresh : (ops_part5_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_1_sub : (ops_part5_1 : List (HloOp τ sig (Elt F))).Forall fun op => op.bufs ⊆ tcRefs τ sig :=
  ⟨binary_bufs_sub .., unary_bufs_sub .., binary_bufs_sub .., binary_bufs_sub .., unary_bufs_sub .., nullary_bufs_sub .., unary_bufs_sub .., binary_bufs_sub .., unary_bufs_sub .., reshape_bufs_sub .., binary_bufs_sub .., nullary_bufs_sub .., nullary_bufs_sub .., nullary_bufs_sub .., quaternary_bufs_sub .., quaternary_bufs_sub .., unary_bufs_sub .., binary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub ..⟩
set_option maxRecDepth 8192 in
theorem ops_part5_1_fresh : (ops_part5_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_2_sub : (ops_part5_2 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., binary_bufs_sub .., unary_bufs_sub .., nullary_bufs_sub ..⟩
set_option maxRecDepth 8192 in
theorem ops_part5_2_fresh : (ops_part5_2 : List (HloOp τ sig (Elt F))).Forall fun op => op.fresh = ∅ :=
  ⟨rfl, rfl, rfl, rfl, rfl, rfl, rfl, rfl, rfl, rfl⟩
set_option maxRecDepth 8192 in
theorem ops_part6_sub : (ops_part6 : List (HloOp τ sig (Elt F))).Forall fun op => op.bufs ⊆ tcRefs τ sig :=
  ⟨unary_bufs_sub .., binary_bufs_sub .., unary_bufs_sub .., reshape_bufs_sub .., binary_bufs_sub .., nullary_bufs_sub .., nullary_bufs_sub .., nullary_bufs_sub .., quaternary_bufs_sub .., quaternary_bufs_sub .., unary_bufs_sub .., binary_bufs_sub .., binary_bufs_sub .., unary_bufs_sub .., unary_bufs_sub .., unary_bufs_sub .., unary_bufs_sub .., nary_bufs_sub .., nullary_bufs_sub .., binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nary_bufs_sub .., unary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., nullary_bufs_sub .., binary_bufs_sub .., binary_bufs_sub .., binary_bufs_sub .., binary_bufs_sub .., binary_bufs_sub .., unary_bufs_sub .., unary_bufs_sub .., unary_bufs_sub .., unary_bufs_sub .., nary_bufs_sub ..⟩
set_option maxRecDepth 8192 in
theorem ops_part6_fresh : (ops_part6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part4, ops_part5, List.mem_append, or_assoc] at h
    rcases h with h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_0_sub op h, List.forall_iff_forall_mem.mp ops_part4_1_sub op h, List.forall_iff_forall_mem.mp ops_part4_2_sub op h, List.forall_iff_forall_mem.mp ops_part5_0_sub op h, List.forall_iff_forall_mem.mp ops_part5_1_sub op h, List.forall_iff_forall_mem.mp ops_part5_2_sub op h, List.forall_iff_forall_mem.mp ops_part6_sub op h]
theorem ops_fresh : ∀ op ∈ (ops : List (HloOp τ sig (Elt F))), op.fresh = ∅ := fun op h => by
    simp only [ops, ops_part4, ops_part5, List.mem_append, or_assoc] at h
    rcases h with h | h | h | h | h | h | h | h | h | h | h
    exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_0_fresh op h, List.forall_iff_forall_mem.mp ops_part4_1_fresh op h, List.forall_iff_forall_mem.mp ops_part4_2_fresh op h, List.forall_iff_forall_mem.mp ops_part5_0_fresh op h, List.forall_iff_forall_mem.mp ops_part5_1_fresh op h, List.forall_iff_forall_mem.mp ops_part5_2_fresh op h, List.forall_iff_forall_mem.mp ops_part6_fresh op h]

end Cert.ReferenceIdeal.Value

end
-- ==== Proof.Ref.Bits.lean ====
/- The reference's values, named, and its first operations (the random words) read back. -/
module

public import proofs.«01_k».proof.Proof.Ref.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_c`'s composed term of the arguments (named: it is used 2 times). -/
def res_main_c (V0 : Valuation τ sig (Elt F)) : (Proc.devRef .tc main_c : DevRef τ sig).ty.Contents (Elt F) :=
  (fun i => lit0 (S4x2.rowMajor i))

set_option maxRecDepth 8192 in
/-- `main_v2`'s composed term of the arguments (named: it is used 4 times). -/
def res_main_v2 (V0 : Valuation τ sig (Elt F)) : (Proc.devRef .tc main_v2 : DevRef τ sig).ty.Contents (Elt F) :=
  Host.dotGeneral dot_S16384x32_S32x32_S16384x32_1_0_0_1_n_n none (shapeCast _ (transpose S16x32x32x32 [0, 2, 3, 1] (V0 (Proc.devRef .tc main_arg0)) transposes_S16x32x32x32_S16x32x32x32_0_2_3_1) shapeCasts_S16x32x32x32_S16384x32) (V0 (Proc.devRef .tc main_arg1))

set_option maxRecDepth 8192 in
/-- `main_v7`'s composed term of the arguments (named: it is used 5 times). -/
def res_main_v7 (V0 : Valuation τ sig (Elt F)) : (Proc.devRef .tc main_v7 : DevRef τ sig).ty.Contents (Elt F) :=
  shapeCast _ (shapeCast _ (extractStridedSlice S4x1 ![0, 0] (res_main_c V0) slices_S4x2_S4x1_0_0) shapeCasts_S4x1_S4) shapeCasts_S4_S4x1x1

set_option maxRecDepth 8192 in
/-- `main_v10`'s composed term of the arguments (named: it is used 5 times). -/
def res_main_v10 (V0 : Valuation τ sig (Elt F)) : (Proc.devRef .tc main_v10 : DevRef τ sig).ty.Contents (Elt F) :=
  shapeCast _ (shapeCast _ (extractStridedSlice S4x1 ![0, 1] (res_main_c V0) slices_S4x2_S4x1_0_1) shapeCasts_S4x1_S4) shapeCasts_S4_S4x1x1

set_option maxRecDepth 8192 in
/-- `main_v13`'s composed term of the arguments (named: it is used 4 times). -/
def res_main_v13 (V0 : Valuation τ sig (Elt F)) : (Proc.devRef .tc main_v13 : DevRef τ sig).ty.Contents (Elt F) :=
  xori (xori (res_main_v7 V0) (res_main_v10 V0)) (broadcastInDim S4x1x1 ![] bcast_S_S4x1x1 (constantI S_ 32 466688986#32))

set_option maxRecDepth 8192 in
/-- `main_v18`'s composed term of the arguments (named: it is used 3 times). -/
def res_main_v18 (V0 : Valuation τ sig (Elt F)) : (Proc.devRef .tc main_v18 : DevRef τ sig).ty.Contents (Elt F) :=
  addi (broadcastInDim S4x16384x8192 ![0, 1, 2] bcast_S1x16384x8192_S4x16384x8192_0_1_2 (broadcastInDim S1x16384x8192 ![1, 2] bcast_S16384x8192_S1x16384x8192_1_2 (shapeCast _ (iotaInDim S134217728 32 0) shapeCasts_S134217728_S16384x8192))) (broadcastInDim S4x16384x8192 ![0, 1, 2] bcast_S4x1x1_S4x16384x8192_0_1_2 (res_main_v10 V0))

set_option maxRecDepth 8192 in
/-- `main_v19`'s composed term of the arguments (named: it is used 2 times). -/
def res_main_v19 (V0 : Valuation τ sig (Elt F)) : (Proc.devRef .tc main_v19 : DevRef τ sig).ty.Contents (Elt F) :=
  addi (broadcastInDim S4x16384x8192 ![0, 1, 2] bcast_S4x1x1_S4x16384x8192_0_1_2 (res_main_v7 V0)) (res_main_v18 V0)

set_option maxRecDepth 8192 in
/-- `main_v25`'s composed term of the arguments (named: it is used 3 times). -/
def res_main_v25 (V0 : Valuation τ sig (Elt F)) : (Proc.devRef .tc main_v25 : DevRef τ sig).ty.Contents (Elt F) :=
  xori (ori (Host.shli (res_main_v18 V0) (broadcastInDim S4x16384x8192 ![] bcast_S_S4x16384x8192 (constantI S_ 32 13#32))) (Host.shrui (res_main_v18 V0) (broadcastInDim S4x16384x8192 ![] bcast_S_S4x16384x8192 (constantI S_ 32 19#32)))) (res_main_v19 V0)

set_option maxRecDepth 8192 in
/-- `main_v26`'s composed term of the arguments (named: it is used 2 times). -/
def res_main_v26 (V0 : Valuation τ sig (Elt F)) : (Proc.devRef .tc main_v26 : DevRef τ sig).ty.Contents (Elt F) :=
  addi (res_main_v19 V0) (res_main_v25 V0)

set_option maxRecDepth 8192 in
/-- `main_v32`'s composed term of the arguments (named: it is used 3 times). -/
def res_main_v32 (V0 : Valuation τ sig (Elt F)) : (Proc.devRef .tc main_v32 : DevRef τ sig).ty.Contents (Elt F) :=
  xori (ori (Host.shli (res_main_v25 V0) (broadcastInDim S4x16384x8192 ![] bcast_S_S4x16384x8192 (constantI S_ 32 15#32))) (Host.shrui (res_main_v25 V0) (broadcastInDim S4x16384x8192 ![] bcast_S_S4x16384x8192 (constantI S_ 32 17#32)))) (res_main_v26 V0)

set_option maxRecDepth 8192 in
/-- `main_v33`'s composed term of the arguments (named: it is used 2 times). -/
def res_main_v33 (V0 : Valuation τ sig (Elt F)) : (Proc.devRef .tc main_v33 : DevRef τ sig).ty.Contents (Elt F) :=
  addi (res_main_v26 V0) (res_main_v32 V0)

set_option maxRecDepth 8192 in
/-- `main_v39`'s composed term of the arguments (named: it is used 3 times). -/
def res_main_v39 (V0 : Valuation τ sig (Elt F)) : (Proc.devRef .tc main_v39 : DevRef τ sig).ty.Contents (Elt F) :=
  xori (ori (Host.shli (res_main_v32 V0) (broadcastInDim S4x16384x8192 ![] bcast_S_S4x16384x8192 (constantI S_ 32 26#32))) (Host.shrui (res_main_v32 V0) (broadcastInDim S4x16384x8192 ![] bcast_S_S4x16384x8192 (constantI S_ 32 6#32)))) (res_main_v33 V0)

set_option maxRecDepth 8192 in
/-- `main_v40`'s composed term of the arguments (named: it is used 2 times). -/
def res_main_v40 (V0 : Valuation τ sig (Elt F)) : (Proc.devRef .tc main_v40 : DevRef τ sig).ty.Contents (Elt F) :=
  addi (res_main_v33 V0) (res_main_v39 V0)

set_option maxRecDepth 8192 in
/-- `main_v52`'s composed term of the arguments (named: it is used 3 times). -/
def res_main_v52 (V0 : Valuation τ sig (Elt F)) : (Proc.devRef .tc main_v52 : DevRef τ sig).ty.Contents (Elt F) :=
  addi (xori (ori (Host.shli (res_main_v39 V0) (broadcastInDim S4x16384x8192 ![] bcast_S_S4x16384x8192 (constantI S_ 32 6#32))) (Host.shrui (res_main_v39 V0) (broadcastInDim S4x16384x8192 ![] bcast_S_S4x16384x8192 (constantI S_ 32 26#32)))) (res_main_v40 V0)) (broadcastInDim S4x16384x8192 ![0, 1, 2] bcast_S4x1x1_S4x16384x8192_0_1_2 (addi (res_main_v13 V0) (broadcastInDim S4x1x1 ![] bcast_S_S4x1x1 (constantI S_ 32 1#32))))

set_option maxRecDepth 8192 in
/-- `main_v53`'s composed term of the arguments (named: it is used 2 times). -/
def res_main_v53 (V0 : Valuation τ sig (Elt F)) : (Proc.devRef .tc main_v53 : DevRef τ sig).ty.Contents (Elt F) :=
  addi (addi (res_main_v40 V0) (broadcastInDim S4x16384x8192 ![0, 1, 2] bcast_S4x1x1_S4x16384x8192_0_1_2 (res_main_v10 V0))) (res_main_v52 V0)

set_option maxRecDepth 8192 in
/-- `main_v59`'s composed term of the arguments (named: it is used 3 times). -/
def res_main_v59 (V0 : Valuation τ sig (Elt F)) : (Proc.devRef .tc main_v59 : DevRef τ sig).ty.Contents (Elt F) :=
  xori (ori (Host.shli (res_main_v52 V0) (broadcastInDim S4x16384x8192 ![] bcast_S_S4x16384x8192 (constantI S_ 32 17#32))) (Host.shrui (res_main_v52 V0) (broadcastInDim S4x16384x8192 ![] bcast_S_S4x16384x8192 (constantI S_ 32 15#32)))) (res_main_v53 V0)

set_option maxRecDepth 8192 in
/-- `main_v60`'s composed term of the arguments (named: it is used 2 times). -/
def res_main_v60 (V0 : Valuation τ sig (Elt F)) : (Proc.devRef .tc main_v60 : DevRef τ sig).ty.Contents (Elt F) :=
  addi (res_main_v53 V0) (res_main_v59 V0)

set_option maxRecDepth 8192 in
/-- `main_v66`'s composed term of the arguments (named: it is used 3 times). -/
def res_main_v66 (V0 : Valuation τ sig (Elt F)) : (Proc.devRef .tc main_v66 : DevRef τ sig).ty.Contents (Elt F) :=
  xori (ori (Host.shli (res_main_v59 V0) (broadcastInDim S4x16384x8192 ![] bcast_S_S4x16384x8192 (constantI S_ 32 29#32))) (Host.shrui (res_main_v59 V0) (broadcastInDim S4x16384x8192 ![] bcast_S_S4x16384x8192 (constantI S_ 32 3#32)))) (res_main_v60 V0)

set_option maxRecDepth 8192 in
/-- `main_v67`'s composed term of the arguments (named: it is used 2 times). -/
def res_main_v67 (V0 : Valuation τ sig (Elt F)) : (Proc.devRef .tc main_v67 : DevRef τ sig).ty.Contents (Elt F) :=
  addi (res_main_v60 V0) (res_main_v66 V0)

set_option maxRecDepth 8192 in
/-- `main_v73`'s composed term of the arguments (named: it is used 3 times). -/
def res_main_v73 (V0 : Valuation τ sig (Elt F)) : (Proc.devRef .tc main_v73 : DevRef τ sig).ty.Contents (Elt F) :=
  xori (ori (Host.shli (res_main_v66 V0) (broadcastInDim S4x16384x8192 ![] bcast_S_S4x16384x8192 (constantI S_ 32 16#32))) (Host.shrui (res_main_v66 V0) (broadcastInDim S4x16384x8192 ![] bcast_S_S4x16384x8192 (constantI S_ 32 16#32)))) (res_main_v67 V0)

set_option maxRecDepth 8192 in
/-- `main_v74`'s composed term of the arguments (named: it is used 2 times). -/
def res_main_v74 (V0 : Valuation τ sig (Elt F)) : (Proc.devRef .tc main_v74 : DevRef τ sig).ty.Contents (Elt F) :=
  addi (res_main_v67 V0) (res_main_v73 V0)

set_option maxRecDepth 8192 in
/-- `main_v86`'s composed term of the arguments (named: it is used 3 times). -/
def res_main_v86 (V0 : Valuation τ sig (Elt F)) : (Proc.devRef .tc main_v86 : DevRef τ sig).ty.Contents (Elt F) :=
  addi (xori (ori (Host.shli (res_main_v73 V0) (broadcastInDim S4x16384x8192 ![] bcast_S_S4x16384x8192 (constantI S_ 32 24#32))) (Host.shrui (res_main_v73 V0) (broadcastInDim S4x16384x8192 ![] bcast_S_S4x16384x8192 (constantI S_ 32 8#32)))) (res_main_v74 V0)) (broadcastInDim S4x16384x8192 ![0, 1, 2] bcast_S4x1x1_S4x16384x8192_0_1_2 (addi (res_main_v7 V0) (broadcastInDim S4x1x1 ![] bcast_S_S4x1x1 (constantI S_ 32 2#32))))

set_option maxRecDepth 8192 in
/-- `main_v87`'s composed term of the arguments (named: it is used 2 times). -/
def res_main_v87 (V0 : Valuation τ sig (Elt F)) : (Proc.devRef .tc main_v87 : DevRef τ sig).ty.Contents (Elt F) :=
  addi (addi (res_main_v74 V0) (broadcastInDim S4x16384x8192 ![0, 1, 2] bcast_S4x1x1_S4x16384x8192_0_1_2 (res_main_v13 V0))) (res_main_v86 V0)

set_option maxRecDepth 8192 in
/-- `main_v93`'s composed term of the arguments (named: it is used 3 times). -/
def res_main_v93 (V0 : Valuation τ sig (Elt F)) : (Proc.devRef .tc main_v93 : DevRef τ sig).ty.Contents (Elt F) :=
  xori (ori (Host.shli (res_main_v86 V0) (broadcastInDim S4x16384x8192 ![] bcast_S_S4x16384x8192 (constantI S_ 32 13#32))) (Host.shrui (res_main_v86 V0) (broadcastInDim S4x16384x8192 ![] bcast_S_S4x16384x8192 (constantI S_ 32 19#32)))) (res_main_v87 V0)

set_option maxRecDepth 8192 in
/-- `main_v94`'s composed term of the arguments (named: it is used 2 times). -/
def res_main_v94 (V0 : Valuation τ sig (Elt F)) : (Proc.devRef .tc main_v94 : DevRef τ sig).ty.Contents (Elt F) :=
  addi (res_main_v87 V0) (res_main_v93 V0)

set_option maxRecDepth 8192 in
/-- `main_v100`'s composed term of the arguments (named: it is used 3 times). -/
def res_main_v100 (V0 : Valuation τ sig (Elt F)) : (Proc.devRef .tc main_v100 : DevRef τ sig).ty.Contents (Elt F) :=
  xori (ori (Host.shli (res_main_v93 V0) (broadcastInDim S4x16384x8192 ![] bcast_S_S4x16384x8192 (constantI S_ 32 15#32))) (Host.shrui (res_main_v93 V0) (broadcastInDim S4x16384x8192 ![] bcast_S_S4x16384x8192 (constantI S_ 32 17#32)))) (res_main_v94 V0)

set_option maxRecDepth 8192 in
/-- `main_v101`'s composed term of the arguments (named: it is used 2 times). -/
def res_main_v101 (V0 : Valuation τ sig (Elt F)) : (Proc.devRef .tc main_v101 : DevRef τ sig).ty.Contents (Elt F) :=
  addi (res_main_v94 V0) (res_main_v100 V0)

set_option maxRecDepth 8192 in
/-- `main_v107`'s composed term of the arguments (named: it is used 3 times). -/
def res_main_v107 (V0 : Valuation τ sig (Elt F)) : (Proc.devRef .tc main_v107 : DevRef τ sig).ty.Contents (Elt F) :=
  xori (ori (Host.shli (res_main_v100 V0) (broadcastInDim S4x16384x8192 ![] bcast_S_S4x16384x8192 (constantI S_ 32 26#32))) (Host.shrui (res_main_v100 V0) (broadcastInDim S4x16384x8192 ![] bcast_S_S4x16384x8192 (constantI S_ 32 6#32)))) (res_main_v101 V0)

set_option maxRecDepth 8192 in
/-- `main_v108`'s composed term of the arguments (named: it is used 2 times). -/
def res_main_v108 (V0 : Valuation τ sig (Elt F)) : (Proc.devRef .tc main_v108 : DevRef τ sig).ty.Contents (Elt F) :=
  addi (res_main_v101 V0) (res_main_v107 V0)

set_option maxRecDepth 8192 in
/-- `main_v120`'s composed term of the arguments (named: it is used 3 times). -/
def res_main_v120 (V0 : Valuation τ sig (Elt F)) : (Proc.devRef .tc main_v120 : DevRef τ sig).ty.Contents (Elt F) :=
  addi (xori (ori (Host.shli (res_main_v107 V0) (broadcastInDim S4x16384x8192 ![] bcast_S_S4x16384x8192 (constantI S_ 32 6#32))) (Host.shrui (res_main_v107 V0) (broadcastInDim S4x16384x8192 ![] bcast_S_S4x16384x8192 (constantI S_ 32 26#32)))) (res_main_v108 V0)) (broadcastInDim S4x16384x8192 ![0, 1, 2] bcast_S4x1x1_S4x16384x8192_0_1_2 (addi (res_main_v10 V0) (broadcastInDim S4x1x1 ![] bcast_S_S4x1x1 (constantI S_ 32 3#32))))

set_option maxRecDepth 8192 in
/-- `main_v121`'s composed term of the arguments (named: it is used 2 times). -/
def res_main_v121 (V0 : Valuation τ sig (Elt F)) : (Proc.devRef .tc main_v121 : DevRef τ sig).ty.Contents (Elt F) :=
  addi (addi (res_main_v108 V0) (broadcastInDim S4x16384x8192 ![0, 1, 2] bcast_S4x1x1_S4x16384x8192_0_1_2 (res_main_v7 V0))) (res_main_v120 V0)

set_option maxRecDepth 8192 in
/-- `main_v127`'s composed term of the arguments (named: it is used 3 times). -/
def res_main_v127 (V0 : Valuation τ sig (Elt F)) : (Proc.devRef .tc main_v127 : DevRef τ sig).ty.Contents (Elt F) :=
  xori (ori (Host.shli (res_main_v120 V0) (broadcastInDim S4x16384x8192 ![] bcast_S_S4x16384x8192 (constantI S_ 32 17#32))) (Host.shrui (res_main_v120 V0) (broadcastInDim S4x16384x8192 ![] bcast_S_S4x16384x8192 (constantI S_ 32 15#32)))) (res_main_v121 V0)

set_option maxRecDepth 8192 in
/-- `main_v128`'s composed term of the arguments (named: it is used 2 times). -/
def res_main_v128 (V0 : Valuation τ sig (Elt F)) : (Proc.devRef .tc main_v128 : DevRef τ sig).ty.Contents (Elt F) :=
  addi (res_main_v121 V0) (res_main_v127 V0)

set_option maxRecDepth 8192 in
/-- `main_v134`'s composed term of the arguments (named: it is used 3 times). -/
def res_main_v134 (V0 : Valuation τ sig (Elt F)) : (Proc.devRef .tc main_v134 : DevRef τ sig).ty.Contents (Elt F) :=
  xori (ori (Host.shli (res_main_v127 V0) (broadcastInDim S4x16384x8192 ![] bcast_S_S4x16384x8192 (constantI S_ 32 29#32))) (Host.shrui (res_main_v127 V0) (broadcastInDim S4x16384x8192 ![] bcast_S_S4x16384x8192 (constantI S_ 32 3#32)))) (res_main_v128 V0)

set_option maxRecDepth 8192 in
/-- `main_v135`'s composed term of the arguments (named: it is used 2 times). -/
def res_main_v135 (V0 : Valuation τ sig (Elt F)) : (Proc.devRef .tc main_v135 : DevRef τ sig).ty.Contents (Elt F) :=
  addi (res_main_v128 V0) (res_main_v134 V0)

set_option maxRecDepth 8192 in
/-- `main_v141`'s composed term of the arguments (named: it is used 3 times). -/
def res_main_v141 (V0 : Valuation τ sig (Elt F)) : (Proc.devRef .tc main_v141 : DevRef τ sig).ty.Contents (Elt F) :=
  xori (ori (Host.shli (res_main_v134 V0) (broadcastInDim S4x16384x8192 ![] bcast_S_S4x16384x8192 (constantI S_ 32 16#32))) (Host.shrui (res_main_v134 V0) (broadcastInDim S4x16384x8192 ![] bcast_S_S4x16384x8192 (constantI S_ 32 16#32)))) (res_main_v135 V0)

set_option maxRecDepth 8192 in
/-- `main_v142`'s composed term of the arguments (named: it is used 2 times). -/
def res_main_v142 (V0 : Valuation τ sig (Elt F)) : (Proc.devRef .tc main_v142 : DevRef τ sig).ty.Contents (Elt F) :=
  addi (res_main_v135 V0) (res_main_v141 V0)

set_option maxRecDepth 8192 in
/-- `main_v154`'s composed term of the arguments (named: it is used 3 times). -/
def res_main_v154 (V0 : Valuation τ sig (Elt F)) : (Proc.devRef .tc main_v154 : DevRef τ sig).ty.Contents (Elt F) :=
  addi (xori (ori (Host.shli (res_main_v141 V0) (broadcastInDim S4x16384x8192 ![] bcast_S_S4x16384x8192 (constantI S_ 32 24#32))) (Host.shrui (res_main_v141 V0) (broadcastInDim S4x16384x8192 ![] bcast_S_S4x16384x8192 (constantI S_ 32 8#32)))) (res_main_v142 V0)) (broadcastInDim S4x16384x8192 ![0, 1, 2] bcast_S4x1x1_S4x16384x8192_0_1_2 (addi (res_main_v13 V0) (broadcastInDim S4x1x1 ![] bcast_S_S4x1x1 (constantI S_ 32 4#32))))

set_option maxRecDepth 8192 in
/-- `main_v155`'s composed term of the arguments (named: it is used 2 times). -/
def res_main_v155 (V0 : Valuation τ sig (Elt F)) : (Proc.devRef .tc main_v155 : DevRef τ sig).ty.Contents (Elt F) :=
  addi (addi (res_main_v142 V0) (broadcastInDim S4x16384x8192 ![0, 1, 2] bcast_S4x1x1_S4x16384x8192_0_1_2 (res_main_v10 V0))) (res_main_v154 V0)

set_option maxRecDepth 8192 in
/-- `main_v161`'s composed term of the arguments (named: it is used 3 times). -/
def res_main_v161 (V0 : Valuation τ sig (Elt F)) : (Proc.devRef .tc main_v161 : DevRef τ sig).ty.Contents (Elt F) :=
  xori (ori (Host.shli (res_main_v154 V0) (broadcastInDim S4x16384x8192 ![] bcast_S_S4x16384x8192 (constantI S_ 32 13#32))) (Host.shrui (res_main_v154 V0) (broadcastInDim S4x16384x8192 ![] bcast_S_S4x16384x8192 (constantI S_ 32 19#32)))) (res_main_v155 V0)

set_option maxRecDepth 8192 in
/-- `main_v162`'s composed term of the arguments (named: it is used 2 times). -/
def res_main_v162 (V0 : Valuation τ sig (Elt F)) : (Proc.devRef .tc main_v162 : DevRef τ sig).ty.Contents (Elt F) :=
  addi (res_main_v155 V0) (res_main_v161 V0)

set_option maxRecDepth 8192 in
/-- `main_v168`'s composed term of the arguments (named: it is used 3 times). -/
def res_main_v168 (V0 : Valuation τ sig (Elt F)) : (Proc.devRef .tc main_v168 : DevRef τ sig).ty.Contents (Elt F) :=
  xori (ori (Host.shli (res_main_v161 V0) (broadcastInDim S4x16384x8192 ![] bcast_S_S4x16384x8192 (constantI S_ 32 15#32))) (Host.shrui (res_main_v161 V0) (broadcastInDim S4x16384x8192 ![] bcast_S_S4x16384x8192 (constantI S_ 32 17#32)))) (res_main_v162 V0)

set_option maxRecDepth 8192 in
/-- `main_v169`'s composed term of the arguments (named: it is used 2 times). -/
def res_main_v169 (V0 : Valuation τ sig (Elt F)) : (Proc.devRef .tc main_v169 : DevRef τ sig).ty.Contents (Elt F) :=
  addi (res_main_v162 V0) (res_main_v168 V0)

set_option maxRecDepth 8192 in
/-- `main_v175`'s composed term of the arguments (named: it is used 3 times). -/
def res_main_v175 (V0 : Valuation τ sig (Elt F)) : (Proc.devRef .tc main_v175 : DevRef τ sig).ty.Contents (Elt F) :=
  xori (ori (Host.shli (res_main_v168 V0) (broadcastInDim S4x16384x8192 ![] bcast_S_S4x16384x8192 (constantI S_ 32 26#32))) (Host.shrui (res_main_v168 V0) (broadcastInDim S4x16384x8192 ![] bcast_S_S4x16384x8192 (constantI S_ 32 6#32)))) (res_main_v169 V0)

set_option maxRecDepth 8192 in
/-- `main_v176`'s composed term of the arguments (named: it is used 2 times). -/
def res_main_v176 (V0 : Valuation τ sig (Elt F)) : (Proc.devRef .tc main_v176 : DevRef τ sig).ty.Contents (Elt F) :=
  addi (res_main_v169 V0) (res_main_v175 V0)

set_option maxRecDepth 8192 in
/-- `main_v201`'s composed term of the arguments (named: it is used 4 times). -/
def res_main_v201 (V0 : Valuation τ sig (Elt F)) : (Proc.devRef .tc main_v201 : DevRef τ sig).ty.Contents (Elt F) :=
  Host.negf (Host.log (Host.negf (Host.log (maximumf (mulf (sitofp .f32 (id (Host.shrui (xori (addi (res_main_v176 V0) (broadcastInDim S4x16384x8192 ![0, 1, 2] bcast_S4x1x1_S4x16384x8192_0_1_2 (res_main_v13 V0))) (addi (xori (ori (Host.shli (res_main_v175 V0) (broadcastInDim S4x16384x8192 ![] bcast_S_S4x16384x8192 (constantI S_ 32 6#32))) (Host.shrui (res_main_v175 V0) (broadcastInDim S4x16384x8192 ![] bcast_S_S4x16384x8192 (constantI S_ 32 26#32)))) (res_main_v176 V0)) (broadcastInDim S4x16384x8192 ![0, 1, 2] bcast_S4x1x1_S4x16384x8192_0_1_2 (addi (res_main_v7 V0) (broadcastInDim S4x1x1 ![] bcast_S_S4x1x1 (constantI S_ 32 5#32)))))) (broadcastInDim S4x16384x8192 ![] bcast_S_S4x16384x8192 (constantI S_ 32 9#32))))) (broadcastInDim S4x16384x8192 ![] bcast_S_S4x16384x8192 (constant S_ .f32 0x34000000#32))) (broadcastInDim S4x16384x8192 ![] bcast_S_S4x16384x8192 (constant S_ .f32 0x00800000#32))))))

set_option maxRecDepth 8192 in
/-- `main_v203`'s composed term of the arguments (named: it is used 4 times). -/
def res_main_v203 (V0 : Valuation τ sig (Elt F)) : (Proc.devRef .tc main_v203 : DevRef τ sig).ty.Contents (Elt F) :=
  shapeCast _ (extractStridedSlice S1x8192x32 ![0, 0, 0] (V0 (Proc.devRef .tc main_arg2)) slices_S4x8192x32_S1x8192x32_0_0_0) shapeCasts_S1x8192x32_S8192x32

set_option maxRecDepth 8192 in
/-- `main_v223`'s composed term of the arguments (named: it is used 2 times). -/
def res_main_v223 (V0 : Valuation τ sig (Elt F)) : (Proc.devRef .tc main_v223 : DevRef τ sig).ty.Contents (Elt F) :=
  addf (shapeCast _ (extractStridedSlice S1x16384x8192 ![0, 0, 0] (res_main_v201 V0) slices_S4x16384x8192_S1x16384x8192_0_0_0) shapeCasts_S1x16384x8192_S16384x8192) (Host.divf (Host.negf (subf (addf (broadcastInDim S16384x8192 ![0, 1] bcast_S16384x1_S16384x8192_0_1 (broadcastInDim S16384x1 ![0] bcast_S16384_S16384x1_0 (Host.reduceAdd (mulf (res_main_v2 V0) (res_main_v2 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v203 V0) (res_main_v203 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v2 V0)) (transpose S32x8192 [1, 0] (res_main_v203 V0) transposes_S8192x32_S32x8192_1_0)))) (broadcastInDim S16384x8192 ![] bcast_S_S16384x8192 (constant S_ .f32 0x3F7FBE77#32)))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S16384x8192 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0xFF800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v224`'s composed term of the arguments (named: it is used 3 times). -/
def res_main_v224 (V0 : Valuation τ sig (Elt F)) : (Proc.devRef .tc main_v224 : DevRef τ sig).ty.Contents (Elt F) :=
  (fun j => (Host.argReduce reducer_argmax_f32_i32 (res_main_v223 V0) (res_main_call0_v0 V0) (res_main_call0_cst V0) (res_main_call0_c V0) reducesTo_S16384x8192_S16384_d1 h_S_ j).2)

set_option maxRecDepth 8192 in
/-- `main_v225`'s composed term of the arguments (named: it is used 2 times). -/
def res_main_v225 (V0 : Valuation τ sig (Elt F)) : (Proc.devRef .tc main_v225 : DevRef τ sig).ty.Contents (Elt F) :=
  Host.gather gather_S8192x32_S16384x1_S16384x32_1_0_n_n_0_1_132 (res_main_v203 V0) (broadcastInDim S16384x1 ![0] bcast_S16384_S16384x1_0 (res_main_v224 V0))

set_option maxRecDepth 8192 in
/-- `main_v226`'s composed term of the arguments (named: it is used 4 times). -/
def res_main_v226 (V0 : Valuation τ sig (Elt F)) : (Proc.devRef .tc main_v226 : DevRef τ sig).ty.Contents (Elt F) :=
  subf (res_main_v2 V0) (res_main_v225 V0)

set_option maxRecDepth 8192 in
/-- `main_v228`'s composed term of the arguments (named: it is used 4 times). -/
def res_main_v228 (V0 : Valuation τ sig (Elt F)) : (Proc.devRef .tc main_v228 : DevRef τ sig).ty.Contents (Elt F) :=
  shapeCast _ (extractStridedSlice S1x8192x32 ![1, 0, 0] (V0 (Proc.devRef .tc main_arg2)) slices_S4x8192x32_S1x8192x32_1_0_0) shapeCasts_S1x8192x32_S8192x32

set_option maxRecDepth 8192 in
/-- `main_v248`'s composed term of the arguments (named: it is used 2 times). -/
def res_main_v248 (V0 : Valuation τ sig (Elt F)) : (Proc.devRef .tc main_v248 : DevRef τ sig).ty.Contents (Elt F) :=
  addf (shapeCast _ (extractStridedSlice S1x16384x8192 ![1, 0, 0] (res_main_v201 V0) slices_S4x16384x8192_S1x16384x8192_1_0_0) shapeCasts_S1x16384x8192_S16384x8192) (Host.divf (Host.negf (subf (addf (broadcastInDim S16384x8192 ![0, 1] bcast_S16384x1_S16384x8192_0_1 (broadcastInDim S16384x1 ![0] bcast_S16384_S16384x1_0 (Host.reduceAdd (mulf (res_main_v226 V0) (res_main_v226 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v228 V0) (res_main_v228 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v226 V0)) (transpose S32x8192 [1, 0] (res_main_v228 V0) transposes_S8192x32_S32x8192_1_0)))) (broadcastInDim S16384x8192 ![] bcast_S_S16384x8192 (constant S_ .f32 0x3F7FBE77#32)))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S16384x8192 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v249`'s composed term of the arguments (named: it is used 3 times). -/
def res_main_v249 (V0 : Valuation τ sig (Elt F)) : (Proc.devRef .tc main_v249 : DevRef τ sig).ty.Contents (Elt F) :=
  (fun j => (Host.argReduce reducer_argmax_f32_i32 (res_main_v248 V0) (res_main_call2_v0 V0) (res_main_call2_cst V0) (res_main_call2_c V0) reducesTo_S16384x8192_S16384_d1 h_S_ j).2)

set_option maxRecDepth 8192 in
/-- `main_v250`'s composed term of the arguments (named: it is used 2 times). -/
def res_main_v250 (V0 : Valuation τ sig (Elt F)) : (Proc.devRef .tc main_v250 : DevRef τ sig).ty.Contents (Elt F) :=
  Host.gather gather_S8192x32_S16384x1_S16384x32_1_0_n_n_0_1_132 (res_main_v228 V0) (broadcastInDim S16384x1 ![0] bcast_S16384_S16384x1_0 (res_main_v249 V0))

set_option maxRecDepth 8192 in
/-- `main_v251`'s composed term of the arguments (named: it is used 4 times). -/
def res_main_v251 (V0 : Valuation τ sig (Elt F)) : (Proc.devRef .tc main_v251 : DevRef τ sig).ty.Contents (Elt F) :=
  subf (res_main_v226 V0) (res_main_v250 V0)

set_option maxRecDepth 8192 in
/-- `main_v253`'s composed term of the arguments (named: it is used 4 times). -/
def res_main_v253 (V0 : Valuation τ sig (Elt F)) : (Proc.devRef .tc main_v253 : DevRef τ sig).ty.Contents (Elt F) :=
  shapeCast _ (extractStridedSlice S1x8192x32 ![2, 0, 0] (V0 (Proc.devRef .tc main_arg2)) slices_S4x8192x32_S1x8192x32_2_0_0) shapeCasts_S1x8192x32_S8192x32

set_option maxRecDepth 8192 in
/-- `main_v273`'s composed term of the arguments (named: it is used 2 times). -/
def res_main_v273 (V0 : Valuation τ sig (Elt F)) : (Proc.devRef .tc main_v273 : DevRef τ sig).ty.Contents (Elt F) :=
  addf (shapeCast _ (extractStridedSlice S1x16384x8192 ![2, 0, 0] (res_main_v201 V0) slices_S4x16384x8192_S1x16384x8192_2_0_0) shapeCasts_S1x16384x8192_S16384x8192) (Host.divf (Host.negf (subf (addf (broadcastInDim S16384x8192 ![0, 1] bcast_S16384x1_S16384x8192_0_1 (broadcastInDim S16384x1 ![0] bcast_S16384_S16384x1_0 (Host.reduceAdd (mulf (res_main_v251 V0) (res_main_v251 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v253 V0) (res_main_v253 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v251 V0)) (transpose S32x8192 [1, 0] (res_main_v253 V0) transposes_S8192x32_S32x8192_1_0)))) (broadcastInDim S16384x8192 ![] bcast_S_S16384x8192 (constant S_ .f32 0x3F7FBE77#32)))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S16384x8192 32 1

set_option maxRecDepth 8192 in
/-- `main_call4_cst`'s composed term of the arguments (named: it is used 2 times). -/
def res_main_call4_cst (V0 : Valuation τ sig (Elt F)) : (Proc.devRef .tc main_call4_cst : DevRef τ sig).ty.Contents (Elt F) :=
  constant S_ .f32 0xFF800000#32

set_option maxRecDepth 8192 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 8192 in
/-- `main_v274`'s composed term of the arguments (named: it is used 3 times). -/
def res_main_v274 (V0 : Valuation τ sig (Elt F)) : (Proc.devRef .tc main_v274 : DevRef τ sig).ty.Contents (Elt F) :=
  (fun j => (Host.argReduce reducer_argmax_f32_i32 (res_main_v273 V0) (res_main_call4_v0 V0) (res_main_call4_cst V0) (res_main_call4_c V0) reducesTo_S16384x8192_S16384_d1 h_S_ j).2)

set_option maxRecDepth 8192 in
/-- `main_v275`'s composed term of the arguments (named: it is used 2 times). -/
def res_main_v275 (V0 : Valuation τ sig (Elt F)) : (Proc.devRef .tc main_v275 : DevRef τ sig).ty.Contents (Elt F) :=
  Host.gather gather_S8192x32_S16384x1_S16384x32_1_0_n_n_0_1_132 (res_main_v253 V0) (broadcastInDim S16384x1 ![0] bcast_S16384_S16384x1_0 (res_main_v274 V0))

set_option maxRecDepth 8192 in
/-- `main_v276`'s composed term of the arguments (named: it is used 4 times). -/
def res_main_v276 (V0 : Valuation τ sig (Elt F)) : (Proc.devRef .tc main_v276 : DevRef τ sig).ty.Contents (Elt F) :=
  subf (res_main_v251 V0) (res_main_v275 V0)

set_option maxRecDepth 8192 in
/-- `main_v278`'s composed term of the arguments (named: it is used 4 times). -/
def res_main_v278 (V0 : Valuation τ sig (Elt F)) : (Proc.devRef .tc main_v278 : DevRef τ sig).ty.Contents (Elt F) :=
  shapeCast _ (extractStridedSlice S1x8192x32 ![3, 0, 0] (V0 (Proc.devRef .tc main_arg2)) slices_S4x8192x32_S1x8192x32_3_0_0) shapeCasts_S1x8192x32_S8192x32

set_option maxRecDepth 8192 in
/-- `main_v298`'s composed term of the arguments (named: it is used 2 times). -/
def res_main_v298 (V0 : Valuation τ sig (Elt F)) : (Proc.devRef .tc main_v298 : DevRef τ sig).ty.Contents (Elt F) :=
  addf (shapeCast _ (extractStridedSlice S1x16384x8192 ![3, 0, 0] (res_main_v201 V0) slices_S4x16384x8192_S1x16384x8192_3_0_0) shapeCasts_S1x16384x8192_S16384x8192) (Host.divf (Host.negf (subf (addf (broadcastInDim S16384x8192 ![0, 1] bcast_S16384x1_S16384x8192_0_1 (broadcastInDim S16384x1 ![0] bcast_S16384_S16384x1_0 (Host.reduceAdd (mulf (res_main_v276 V0) (res_main_v276 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v278 V0) (res_main_v278 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v276 V0)) (transpose S32x8192 [1, 0] (res_main_v278 V0) transposes_S8192x32_S32x8192_1_0)))) (broadcastInDim S16384x8192 ![] bcast_S_S16384x8192 (constant S_ .f32 0x3F7FBE77#32)))

set_option maxRecDepth 8192 in
/-- `main_call6_v0`'s composed term of the arguments (named: it is used 2 times). -/
def res_main_call6_v0 (V0 : Valuation τ sig (Elt F)) : (Proc.devRef .tc main_call6_v0 : DevRef τ sig).ty.Contents (Elt F) :=
  iotaInDim S16384x8192 32 1

set_option maxRecDepth 8192 in
/-- `main_call6_cst`'s composed term of the arguments (named: it is used 2 times). -/
def res_main_call6_cst (V0 : Valuation τ sig (Elt F)) : (Proc.devRef .tc main_call6_cst : DevRef τ sig).ty.Contents (Elt F) :=
  constant S_ .f32 0xFF800000#32

set_option maxRecDepth 8192 in
/-- `main_call6_c`'s composed term of the arguments (named: it is used 2 times). -/
def res_main_call6_c (V0 : Valuation τ sig (Elt F)) : (Proc.devRef .tc main_call6_c : DevRef τ sig).ty.Contents (Elt F) :=
  constantI S_ 32 0#32

set_option maxRecDepth 8192 in
/-- `main_v299`'s composed term of the arguments (named: it is used 3 times). -/
def res_main_v299 (V0 : Valuation τ sig (Elt F)) : (Proc.devRef .tc main_v299 : DevRef τ sig).ty.Contents (Elt F) :=
  (fun j => (Host.argReduce reducer_argmax_f32_i32 (res_main_v298 V0) (res_main_call6_v0 V0) (res_main_call6_cst V0) (res_main_call6_c V0) reducesTo_S16384x8192_S16384_d1 h_S_ j).2)

set_option maxRecDepth 8192 in
/-- `main_v300`'s composed term of the arguments (named: it is used 2 times). -/
def res_main_v300 (V0 : Valuation τ sig (Elt F)) : (Proc.devRef .tc main_v300 : DevRef τ sig).ty.Contents (Elt F) :=
  Host.gather gather_S8192x32_S16384x1_S16384x32_1_0_n_n_0_1_132 (res_main_v278 V0) (broadcastInDim S16384x1 ![0] bcast_S16384_S16384x1_0 (res_main_v299 V0))

set_option maxRecDepth 8192 in
/-- `main_v308`'s composed term of the arguments (named: it is used 3 times). -/
def res_main_v308 (V0 : Valuation τ sig (Elt F)) : (Proc.devRef .tc main_v308 : DevRef τ sig).ty.Contents (Elt F) :=
  shapeCast _ (Host.reduceAdd ((concatenate S4x16384x32 0 [⟨S1x16384x32, ((broadcastInDim S1x16384x32 ![1, 2] bcast_S16384x32_S1x16384x32_1_2 (res_main_v225 V0)) : (⟨S1x16384x32, .f32⟩ : BufTy).Contents (Elt F))⟩, ⟨S1x16384x32, ((broadcastInDim S1x16384x32 ![1, 2] bcast_S16384x32_S1x16384x32_1_2 (res_main_v250 V0)) : (⟨S1x16384x32, .f32⟩ : BufTy).Contents (Elt F))⟩, ⟨S1x16384x32, ((broadcastInDim S1x16384x32 ![1, 2] bcast_S16384x32_S1x16384x32_1_2 (res_main_v275 V0)) : (⟨S1x16384x32, .f32⟩ : BufTy).Contents (Elt F))⟩, ⟨S1x16384x32, ((broadcastInDim S1x16384x32 ![1, 2] bcast_S16384x32_S1x16384x32_1_2 (res_main_v300 V0)) : (⟨S1x16384x32, .f32⟩ : BufTy).Contents (Elt F))⟩] concatenates_S1x16384x32_S1x16384x32_S1x16384x32_S1x16384x32_S4x16384x32_d0 : (⟨S4x16384x32, .f32⟩ : BufTy).Contents (Elt F))) (constant S_ .f32 0x00000000#32) reducesTo_S4x16384x32_S16384x32_d0 h_S_) shapeCasts_S16384x32_S16x32x32x32

set_option maxRecDepth 8192 in
/-- `main_v309`'s composed term of the arguments (named: it is used 2 times). -/
def res_main_v309 (V0 : Valuation τ sig (Elt F)) : (Proc.devRef .tc main_v309 : DevRef τ sig).ty.Contents (Elt F) :=
  subf (res_main_v308 V0) (V0 (Proc.devRef .tc main_arg0))

set_option maxRecDepth 8192 in
/-- `main_v314`'s composed term of the arguments (named: it is used 2 times). -/
def res_main_v314 (V0 : Valuation τ sig (Elt F)) : (Proc.devRef .tc main_v314 : DevRef τ sig).ty.Contents (Elt F) :=
  subf (res_main_v308 V0) (V0 (Proc.devRef .tc main_arg0))

set_option maxRecDepth 8192 in
/-- `main_v321`'s composed term of the arguments (named: it is used 2 times). -/
def res_main_v321 (V0 : Valuation τ sig (Elt F)) : (Proc.devRef .tc main_v321 : DevRef τ sig).ty.Contents (Elt F) :=
  Host.divf (Host.reduceAdd (sitofp .f32 ((concatenate S65536 0 [⟨S16384, ((res_main_v224 V0) : (⟨S16384, .i32⟩ : BufTy).Contents (Elt F))⟩, ⟨S16384, ((res_main_v249 V0) : (⟨S16384, .i32⟩ : BufTy).Contents (Elt F))⟩, ⟨S16384, ((res_main_v274 V0) : (⟨S16384, .i32⟩ : BufTy).Contents (Elt F))⟩, ⟨S16384, ((res_main_v299 V0) : (⟨S16384, .i32⟩ : BufTy).Contents (Elt F))⟩] concatenates_S16384_S16384_S16384_S16384_S65536_d0 : (⟨S65536, .i32⟩ : BufTy).Contents (Elt F)))) (constant S_ .f32 0x00000000#32) reducesTo_S65536_S_d0 h_S_) (constant S_ .f32 0x47800000#32)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_c, main_v0, main_v1, main_v2, main_v3, main_v4, main_v5, main_v6, main_v7, main_v8, main_v9, main_v10, main_v11, main_c_0, main_v12, main_v13, main_v14, main_v15, main_v16, main_v17, main_v18, main_v19, main_c_1, main_v20, main_v21, main_c_2, main_v22, main_v23, main_v24, main_v25, main_v26, main_c_3, main_v27, main_v28, main_c_4, main_v29, main_v30, main_v31, main_v32, main_v33, main_c_5, main_v34, main_v35, main_c_6, main_v36, main_v37, main_v38, main_v39, main_v40, main_c_7, main_v41, main_v42, main_c_8, main_v43, main_v44, main_v45, main_v46, main_v47, main_v48, main_c_9]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 8192 in
set_option maxHeartbeats 2000000 in
theorem val1_main_v2 (V0 : Valuation τ sig (Elt F)) : val1 V0 (no_index (Proc.devRef .tc main_v2)) = res_main_v2 V0 := by
  unfold val1
  simp only [ops_part0]
  after_results_simp
  simp only [val0_main_arg1, val0_main_arg0] <;> rfl
set_option maxRecDepth 8192 in
set_option maxHeartbeats 2000000 in
theorem val1_main_v7 (V0 : Valuation τ sig (Elt F)) : val1 V0 (no_index (Proc.devRef .tc main_v7)) = res_main_v7 V0 := by
  unfold val1
  simp only [ops_part0]
  after_results_simp
  all_goals rfl
set_option maxRecDepth 8192 in
set_option maxHeartbeats 2000000 in
theorem val1_main_v10 (V0 : Valuation τ sig (Elt F)) : val1 V0 (no_index (Proc.devRef .tc main_v10)) = res_main_v10 V0 := by
  unfold val1
  simp only [ops_part0]
  after_results_simp
  all_goals rfl
set_option maxRecDepth 8192 in
set_option maxHeartbeats 2000000 in
theorem val1_main_v13 (V0 : Valuation τ sig (Elt F)) : val1 V0 (no_index (Proc.devRef .tc main_v13)) = res_main_v13 V0 := by
  unfold val1
  simp only [ops_part0]
  after_results_simp
  all_goals rfl
set_option maxRecDepth 8192 in
set_option maxHeartbeats 2000000 in
theorem val1_main_v46 (V0 : Valuation τ sig (Elt F)) : val1 V0 (no_index (Proc.devRef .tc main_v46)) = xori (ori (Host.shli (res_main_v39 V0) (broadcastInDim S4x16384x8192 ![] bcast_S_S4x16384x8192 (constantI S_ 32 6#32))) (Host.shrui (res_main_v39 V0) (broadcastInDim S4x16384x8192 ![] bcast_S_S4x16384x8192 (constantI S_ 32 26#32)))) (res_main_v40 V0) := by
  unfold val1
  simp only [ops_part0]
  after_results_simp
  all_goals rfl
set_option maxRecDepth 8192 in
set_option maxHeartbeats 2000000 in
theorem val1_main_v48 (V0 : Valuation τ sig (Elt F)) : val1 V0 (no_index (Proc.devRef .tc main_v48)) = addi (res_main_v40 V0) (broadcastInDim S4x16384x8192 ![0, 1, 2] bcast_S4x1x1_S4x16384x8192_0_1_2 (res_main_v10 V0)) := by
  unfold val1
  simp only [ops_part0]
  after_results_simp
  all_goals rfl
set_option maxRecDepth 8192 in
set_option maxHeartbeats 2000000 in
theorem val1_main_c_9 (V0 : Valuation τ sig (Elt F)) : val1 V0 (no_index (Proc.devRef .tc main_c_9)) = constantI S_ 32 1#32 := by
  unfold val1
  simp only [ops_part0]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v49, main_v50, main_v51, main_v52, main_v53, main_c_10, main_v54, main_v55, main_c_11, main_v56, main_v57, main_v58, main_v59, main_v60, main_c_12, main_v61, main_v62, main_c_13, main_v63, main_v64, main_v65, main_v66, main_v67, main_c_14, main_v68, main_v69, main_c_15, main_v70, main_v71, main_v72, main_v73, main_v74, main_c_16, main_v75, main_v76, main_c_17, main_v77, main_v78, main_v79, main_v80, main_v81, main_v82, main_c_18, main_v83, main_v84, main_v85, main_v86, main_v87, main_c_19, main_v88, main_v89, main_c_20, main_v90, main_v91, main_v92, main_v93, main_v94, main_c_21, main_v95, main_v96]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_v2 (V0 : Valuation τ sig (Elt F)) : val2 V0 (no_index (Proc.devRef .tc main_v2)) = res_main_v2 V0 :=
  (val2_keep V0 main_v2 (by decide)).trans (val1_main_v2 V0)
theorem val2_main_v7 (V0 : Valuation τ sig (Elt F)) : val2 V0 (no_index (Proc.devRef .tc main_v7)) = res_main_v7 V0 :=
  (val2_keep V0 main_v7 (by decide)).trans (val1_main_v7 V0)
theorem val2_main_v10 (V0 : Valuation τ sig (Elt F)) : val2 V0 (no_index (Proc.devRef .tc main_v10)) = res_main_v10 V0 :=
  (val2_keep V0 main_v10 (by decide)).trans (val1_main_v10 V0)
theorem val2_main_v13 (V0 : Valuation τ sig (Elt F)) : val2 V0 (no_index (Proc.devRef .tc main_v13)) = res_main_v13 V0 :=
  (val2_keep V0 main_v13 (by decide)).trans (val1_main_v13 V0)
set_option maxRecDepth 8192 in
set_option maxHeartbeats 2000000 in
theorem val2_main_v93 (V0 : Valuation τ sig (Elt F)) : val2 V0 (no_index (Proc.devRef .tc main_v93)) = res_main_v93 V0 := by
  unfold val2
  simp only [ops_part1]
  after_results_simp
  simp only [val1_main_v7, val1_main_c_9, val1_main_v13, val1_main_v46, val1_main_v48] <;> rfl
set_option maxRecDepth 8192 in
set_option maxHeartbeats 2000000 in
theorem val2_main_v94 (V0 : Valuation τ sig (Elt F)) : val2 V0 (no_index (Proc.devRef .tc main_v94)) = res_main_v94 V0 := by
  unfold val2
  simp only [ops_part1]
  after_results_simp
  simp only [val1_main_v7, val1_main_c_9, val1_main_v13, val1_main_v46, val1_main_v48] <;> rfl
set_option maxRecDepth 8192 in
set_option maxHeartbeats 2000000 in
theorem val2_main_v96 (V0 : Valuation τ sig (Elt F)) : val2 V0 (no_index (Proc.devRef .tc main_v96)) = Host.shli (res_main_v93 V0) (broadcastInDim S4x16384x8192 ![] bcast_S_S4x16384x8192 (constantI S_ 32 15#32)) := by
  unfold val2
  simp only [ops_part1]
  after_results_simp
  simp only [val1_main_v7, val1_main_c_9, val1_main_v13, val1_main_v46, val1_main_v48] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_c_22, main_v97, main_v98, main_v99, main_v100, main_v101, main_c_23, main_v102, main_v103, main_c_24, main_v104, main_v105, main_v106, main_v107, main_v108, main_c_25, main_v109, main_v110, main_c_26, main_v111, main_v112, main_v113, main_v114, main_v115, main_v116, main_c_27, main_v117, main_v118, main_v119, main_v120, main_v121, main_c_28, main_v122, main_v123, main_c_29, main_v124, main_v125, main_v126, main_v127, main_v128, main_c_30, main_v129, main_v130, main_c_31, main_v131, main_v132, main_v133, main_v134, main_v135, main_c_32, main_v136, main_v137, main_c_33, main_v138, main_v139, main_v140, main_v141, main_v142, main_c_34, main_v143]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_v2 (V0 : Valuation τ sig (Elt F)) : val3 V0 (no_index (Proc.devRef .tc main_v2)) = res_main_v2 V0 :=
  (val3_keep V0 main_v2 (by decide)).trans (val2_main_v2 V0)
theorem val3_main_v7 (V0 : Valuation τ sig (Elt F)) : val3 V0 (no_index (Proc.devRef .tc main_v7)) = res_main_v7 V0 :=
  (val3_keep V0 main_v7 (by decide)).trans (val2_main_v7 V0)
theorem val3_main_v10 (V0 : Valuation τ sig (Elt F)) : val3 V0 (no_index (Proc.devRef .tc main_v10)) = res_main_v10 V0 :=
  (val3_keep V0 main_v10 (by decide)).trans (val2_main_v10 V0)
theorem val3_main_v13 (V0 : Valuation τ sig (Elt F)) : val3 V0 (no_index (Proc.devRef .tc main_v13)) = res_main_v13 V0 :=
  (val3_keep V0 main_v13 (by decide)).trans (val2_main_v13 V0)
set_option maxRecDepth 8192 in
set_option maxHeartbeats 2000000 in
theorem val3_main_v141 (V0 : Valuation τ sig (Elt F)) : val3 V0 (no_index (Proc.devRef .tc main_v141)) = res_main_v141 V0 := by
  unfold val3
  simp only [ops_part2]
  after_results_simp
  simp only [val2_main_v10, val2_main_v94, val2_main_v93, val2_main_v96, val2_main_v7] <;> rfl
set_option maxRecDepth 8192 in
set_option maxHeartbeats 2000000 in
theorem val3_main_v142 (V0 : Valuation τ sig (Elt F)) : val3 V0 (no_index (Proc.devRef .tc main_v142)) = res_main_v142 V0 := by
  unfold val3
  simp only [ops_part2]
  after_results_simp
  simp only [val2_main_v10, val2_main_v94, val2_main_v93, val2_main_v96, val2_main_v7] <;> rfl
set_option maxRecDepth 8192 in
set_option maxHeartbeats 2000000 in
theorem val3_main_v143 (V0 : Valuation τ sig (Elt F)) : val3 V0 (no_index (Proc.devRef .tc main_v143)) = broadcastInDim S4x16384x8192 ![] bcast_S_S4x16384x8192 (constantI S_ 32 24#32) := by
  unfold val3
  simp only [ops_part2]
  after_results_simp
  all_goals rfl

end Cert.ReferenceIdeal.Value

end
-- ==== Proof.Ref.Run.lean ====
/- The reference's remaining operations read back, and its run. -/
module

public import proofs.«01_k».proof.Proof.Ref.Bits

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v144, main_c_35, main_v145, main_v146, main_v147, main_v148, main_v149, main_v150, main_c_36, main_v151, main_v152, main_v153, main_v154, main_v155, main_c_37, main_v156, main_v157, main_c_38, main_v158, main_v159, main_v160, main_v161, main_v162, main_c_39, main_v163, main_v164, main_c_40, main_v165, main_v166, main_v167, main_v168, main_v169, main_c_41, main_v170, main_v171, main_c_42, main_v172, main_v173, main_v174, main_v175, main_v176, main_c_43, main_v177, main_v178, main_c_44, main_v179, main_v180, main_v181, main_v182, main_v183, main_v184, main_c_45, main_v185, main_v186, main_v187, main_v188, main_v189, main_c_46, main_v190, main_v191]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_v2 (V0 : Valuation τ sig (Elt F)) : val4 V0 (no_index (Proc.devRef .tc main_v2)) = res_main_v2 V0 :=
  (val4_keep V0 main_v2 (by decide)).trans (val3_main_v2 V0)
set_option maxRecDepth 8192 in
set_option maxHeartbeats 2000000 in
theorem val4_main_v191 (V0 : Valuation τ sig (Elt F)) : val4 V0 (no_index (Proc.devRef .tc main_v191)) = Host.shrui (xori (addi (res_main_v176 V0) (broadcastInDim S4x16384x8192 ![0, 1, 2] bcast_S4x1x1_S4x16384x8192_0_1_2 (res_main_v13 V0))) (addi (xori (ori (Host.shli (res_main_v175 V0) (broadcastInDim S4x16384x8192 ![] bcast_S_S4x16384x8192 (constantI S_ 32 6#32))) (Host.shrui (res_main_v175 V0) (broadcastInDim S4x16384x8192 ![] bcast_S_S4x16384x8192 (constantI S_ 32 26#32)))) (res_main_v176 V0)) (broadcastInDim S4x16384x8192 ![0, 1, 2] bcast_S4x1x1_S4x16384x8192_0_1_2 (addi (res_main_v7 V0) (broadcastInDim S4x1x1 ![] bcast_S_S4x1x1 (constantI S_ 32 5#32)))))) (broadcastInDim S4x16384x8192 ![] bcast_S_S4x16384x8192 (constantI S_ 32 9#32)) := by
  unfold val4
  simp only [ops_part3]
  after_results_simp
  simp only [val3_main_v7, val3_main_v13, val3_main_v142, val3_main_v141, val3_main_v143, val3_main_v10] <;> rfl

/-- The device's buffer contents after @main's first 270 operations. -/
def val4_1 (V0 : Valuation τ sig (Elt F)) : Valuation τ sig (Elt F) := after ops_part4_0 (val4 V0)
/-- The buffers that window `ops_part4_0`'s operations write. -/
abbrev ops_part4_0_W : List (Ref sig .tc) := [main_v192, main_v193, main_cst, main_v194, main_v195, main_cst_47, main_v196, main_v197, main_v198, main_v199, main_v200, main_v201, main_v202, main_v203, main_v204, main_cst_48, main_v205, main_v206, main_v207, main_cst_49, main_v208, main_v209, main_v210, main_v211, main_v212, main_cst_50, main_v213, main_v214, main_v215, main_v216]
set_option maxRecDepth 8192 in
theorem ops_part4_0_writes : (ops_part4_0 : List (HloOp τ sig (Elt F))).Forall fun op => op.writes ⊆ (ops_part4_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_v2 (V0 : Valuation τ sig (Elt F)) : val4_1 V0 (no_index (Proc.devRef .tc main_v2)) = res_main_v2 V0 :=
  (val4_1_keep V0 main_v2 (by decide)).trans (val4_main_v2 V0)
set_option maxRecDepth 8192 in
set_option maxHeartbeats 2000000 in
theorem val4_1_main_v201 (V0 : Valuation τ sig (Elt F)) : val4_1 V0 (no_index (Proc.devRef .tc main_v201)) = res_main_v201 V0 := by
  unfold val4_1
  simp only [ops_part4_0]
  after_results_simp
  simp only [val4_main_v191] <;> rfl
set_option maxRecDepth 8192 in
set_option maxHeartbeats 2000000 in
theorem val4_1_main_v203 (V0 : Valuation τ sig (Elt F)) : val4_1 V0 (no_index (Proc.devRef .tc main_v203)) = res_main_v203 V0 := by
  unfold val4_1
  simp only [ops_part4_0]
  after_results_simp
  simp only [val4_main_arg2] <;> rfl
set_option maxRecDepth 8192 in
set_option maxHeartbeats 2000000 in
theorem val4_1_main_v212 (V0 : Valuation τ sig (Elt F)) : val4_1 V0 (no_index (Proc.devRef .tc main_v212)) = addf (broadcastInDim S16384x8192 ![0, 1] bcast_S16384x1_S16384x8192_0_1 (broadcastInDim S16384x1 ![0] bcast_S16384_S16384x1_0 (Host.reduceAdd (mulf (res_main_v2 V0) (res_main_v2 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v203 V0) (res_main_v203 V0)) (constant S_ .f32 0x00000000#32) reducesTo_S8192x32_S8192_d1 h_S_))) := by
  unfold val4_1
  simp only [ops_part4_0]
  after_results_simp
  simp only [val4_main_arg2, val4_main_v2] <;> rfl
set_option maxRecDepth 8192 in
set_option maxHeartbeats 2000000 in
theorem val4_1_main_v216 (V0 : Valuation τ sig (Elt F)) : val4_1 V0 (no_index (Proc.devRef .tc main_v216)) = Host.dotGeneral dot_S16384x32_S32x8192_S16384x8192_1_0_0_1_n_n none (mulf (broadcastInDim S16384x32 ![] bcast_S_S16384x32 (constant S_ .f32 0x40000000#32)) (res_main_v2 V0)) (transpose S32x8192 [1, 0] (res_main_v203 V0) transposes_S8192x32_S32x8192_1_0) := by
  unfold val4_1
  simp only [ops_part4_0]
  after_results_simp
  simp only [val4_main_arg2, val4_main_v2] <;> rfl

/-- The device's buffer contents after @main's first 300 operations. -/
def val4_2 (V0 : Valuation τ sig (Elt F)) : Valuation τ sig (Elt F) := after ops_part4_1 (val4_1 V0)
/-- The buffers that window `ops_part4_1`'s operations write. -/
abbrev ops_part4_1_W : List (Ref sig .tc) := [main_v217, main_v218, main_cst_51, main_v219, main_v220, main_v221, main_v222, main_v223, main_call0_v0, main_call0_cst, main_call0_c, main_call0_v1_0, main_v224, main_call1_v0, main_v225, main_v226, main_v227, main_v228, main_v229, main_cst_52, main_v230, main_v231, main_v232, main_cst_53, main_v233, main_v234, main_v235, main_v236, main_v237, main_cst_54]
set_option maxRecDepth 8192 in
theorem ops_part4_1_writes : (ops_part4_1 : List (HloOp τ sig (Elt F))).Forall fun op => op.writes ⊆ (ops_part4_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_v201 (V0 : Valuation τ sig (Elt F)) : val4_2 V0 (no_index (Proc.devRef .tc main_v201)) = res_main_v201 V0 :=
  (val4_2_keep V0 main_v201 (by decide)).trans (val4_1_main_v201 V0)
set_option maxRecDepth 8192 in
set_option maxHeartbeats 2000000 in
theorem val4_2_main_v224 (V0 : Valuation τ sig (Elt F)) : val4_2 V0 (no_index (Proc.devRef .tc main_v224)) = res_main_v224 V0 := by
  unfold val4_2
  simp only [ops_part4_1, TRef.binary, TRef.nullary, TRef.quaternary, TRef.unary, TRef.toBuf, TRef.ofBuf, cast_eq]
  after_results_simp
  simp only [val4_1_main_v216, val4_1_main_v212, val4_1_main_v201] <;> rfl
set_option maxRecDepth 8192 in
set_option maxHeartbeats 2000000 in
theorem val4_2_main_v225 (V0 : Valuation τ sig (Elt F)) : val4_2 V0 (no_index (Proc.devRef .tc main_v225)) = res_main_v225 V0 := by
  unfold val4_2
  simp only [ops_part4_1, TRef.binary, TRef.nullary, TRef.quaternary, TRef.unary, TRef.toBuf, TRef.ofBuf, cast_eq]
  after_results_simp
  simp only [val4_1_main_v216, val4_1_main_v212, val4_1_main_v201, val4_1_main_v203] <;> rfl
set_option maxRecDepth 8192 in
set_option maxHeartbeats 2000000 in
theorem val4_2_main_v226 (V0 : Valuation τ sig (Elt F)) : val4_2 V0 (no_index (Proc.devRef .tc main_v226)) = res_main_v226 V0 := by
  unfold val4_2
  simp only [ops_part4_1, TRef.binary, TRef.nullary, TRef.quaternary, TRef.unary, TRef.toBuf, TRef.ofBuf, cast_eq]
  after_results_simp
  simp only [val4_1_main_v216, val4_1_main_v212, val4_1_main_v201, val4_1_main_v203, val4_1_main_v2] <;> rfl
set_option maxRecDepth 8192 in
set_option maxHeartbeats 2000000 in
theorem val4_2_main_v228 (V0 : Valuation τ sig (Elt F)) : val4_2 V0 (no_index (Proc.devRef .tc main_v228)) = res_main_v228 V0 := by
  unfold val4_2
  simp only [ops_part4_1, TRef.binary, TRef.nullary, TRef.quaternary, TRef.unary, TRef.toBuf, TRef.ofBuf, cast_eq]
  after_results_simp
  simp only [val4_1_main_arg2] <;> rfl
set_option maxRecDepth 8192 in
set_option maxHeartbeats 2000000 in
theorem val4_2_main_v237 (V0 : Valuation τ sig (Elt F)) : val4_2 V0 (no_index (Proc.devRef .tc main_v237)) = addf (broadcastInDim S16384x8192 ![0, 1] bcast_S16384x1_S16384x8192_0_1 (broadcastInDim S16384x1 ![0] bcast_S16384_S16384x1_0 (Host.reduceAdd (mulf (res_main_v226 V0) (res_main_v226 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v228 V0) (res_main_v228 V0)) (constant S_ .f32 0x00000000#32) reducesTo_S8192x32_S8192_d1 h_S_))) := by
  unfold val4_2
  simp only [ops_part4_1, TRef.binary, TRef.nullary, TRef.quaternary, TRef.unary, TRef.toBuf, TRef.ofBuf, cast_eq]
  after_results_simp
  simp only [val4_1_main_arg2, val4_1_main_v216, val4_1_main_v212, val4_1_main_v201, val4_1_main_v203, val4_1_main_v2] <;> rfl
set_option maxRecDepth 8192 in
set_option maxHeartbeats 2000000 in
theorem val4_2_main_cst_54 (V0 : Valuation τ sig (Elt F)) : val4_2 V0 (no_index (Proc.devRef .tc main_cst_54)) = constant S_ .f32 0x40000000#32 := by
  unfold val4_2
  simp only [ops_part4_1, TRef.binary, TRef.nullary, TRef.quaternary, TRef.unary, TRef.toBuf, TRef.ofBuf, cast_eq]
  after_results_simp
  all_goals rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v238, main_v239, main_v240, main_v241, main_v242]
set_option maxRecDepth 8192 in
theorem ops_part4_2_writes : (ops_part4_2 : List (HloOp τ sig (Elt F))).Forall fun op => op.writes ⊆ (ops_part4_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
theorem val5_main_arg2 (V0 : Valuation τ sig (Elt F)) : val5 V0 (no_index (Proc.devRef .tc main_arg2)) = V0 (Proc.devRef .tc main_arg2) :=
  (val5_keep V0 main_arg2 (by decide)).trans (val4_2_main_arg2 V0)
theorem val5_main_v201 (V0 : Valuation τ sig (Elt F)) : val5 V0 (no_index (Proc.devRef .tc main_v201)) = res_main_v201 V0 :=
  (val5_keep V0 main_v201 (by decide)).trans (val4_2_main_v201 V0)
theorem val5_main_v224 (V0 : Valuation τ sig (Elt F)) : val5 V0 (no_index (Proc.devRef .tc main_v224)) = res_main_v224 V0 :=
  (val5_keep V0 main_v224 (by decide)).trans (val4_2_main_v224 V0)
theorem val5_main_v225 (V0 : Valuation τ sig (Elt F)) : val5 V0 (no_index (Proc.devRef .tc main_v225)) = res_main_v225 V0 :=
  (val5_keep V0 main_v225 (by decide)).trans (val4_2_main_v225 V0)
theorem val5_main_v226 (V0 : Valuation τ sig (Elt F)) : val5 V0 (no_index (Proc.devRef .tc main_v226)) = res_main_v226 V0 :=
  (val5_keep V0 main_v226 (by decide)).trans (val4_2_main_v226 V0)
theorem val5_main_v228 (V0 : Valuation τ sig (Elt F)) : val5 V0 (no_index (Proc.devRef .tc main_v228)) = res_main_v228 V0 :=
  (val5_keep V0 main_v228 (by decide)).trans (val4_2_main_v228 V0)
set_option maxRecDepth 8192 in
theorem val5_main_v242 (V0 : Valuation τ sig (Elt F)) : val5 V0 (no_index (Proc.devRef .tc main_v242)) = subf (addf (broadcastInDim S16384x8192 ![0, 1] bcast_S16384x1_S16384x8192_0_1 (broadcastInDim S16384x1 ![0] bcast_S16384_S16384x1_0 (Host.reduceAdd (mulf (res_main_v226 V0) (res_main_v226 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v228 V0) (res_main_v228 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v226 V0)) (transpose S32x8192 [1, 0] (res_main_v228 V0) transposes_S8192x32_S32x8192_1_0)) := by
  unfold val5
  simp only [ops_part4_2]
  after_results_simp
  simp only [val4_2_main_v228, val4_2_main_v226, val4_2_main_cst_54, val4_2_main_v237] <;> rfl

/-- The device's buffer contents after @main's first 335 operations. -/
def val5_1 (V0 : Valuation τ sig (Elt F)) : Valuation τ sig (Elt F) := after ops_part5_0 (val5 V0)
/-- The buffers that window `ops_part5_0`'s operations write. -/
abbrev ops_part5_0_W : List (Ref sig .tc) := [main_v243, main_cst_55, main_v244, main_v245, main_v246, main_v247, main_v248, main_call2_v0, main_call2_cst, main_call2_c, main_call2_v1_0, main_v249, main_call3_v0, main_v250, main_v251, main_v252, main_v253, main_v254, main_cst_56, main_v255, main_v256, main_v257, main_cst_57, main_v258, main_v259, main_v260, main_v261, main_v262, main_cst_58, main_v263]
set_option maxRecDepth 8192 in
theorem ops_part5_0_writes : (ops_part5_0 : List (HloOp τ sig (Elt F))).Forall fun op => op.writes ⊆ (ops_part5_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part5_0` does not write keeps its contents through it. -/
theorem val5_1_keep (V0 : Valuation τ sig (Elt F)) (r : Ref sig .tc) (h : r ∉ ops_part5_0_W) :
    val5_1 V0 (Proc.devRef .tc r) = val5 V0 (Proc.devRef .tc r) :=
  after_of_writes_sub ops_part5_0 _ ops_part5_0_writes h
theorem val5_1_main_arg0 (V0 : Valuation τ sig (Elt F)) : val5_1 V0 (no_index (Proc.devRef .tc main_arg0)) = V0 (Proc.devRef .tc main_arg0) :=
  (val5_1_keep V0 main_arg0 (by decide)).trans (val5_main_arg0 V0)
theorem val5_1_main_arg1 (V0 : Valuation τ sig (Elt F)) : val5_1 V0 (no_index (Proc.devRef .tc main_arg1)) = V0 (Proc.devRef .tc main_arg1) :=
  (val5_1_keep V0 main_arg1 (by decide)).trans (val5_main_arg1 V0)
theorem val5_1_main_arg2 (V0 : Valuation τ sig (Elt F)) : val5_1 V0 (no_index (Proc.devRef .tc main_arg2)) = V0 (Proc.devRef .tc main_arg2) :=
  (val5_1_keep V0 main_arg2 (by decide)).trans (val5_main_arg2 V0)
theorem val5_1_main_v201 (V0 : Valuation τ sig (Elt F)) : val5_1 V0 (no_index (Proc.devRef .tc main_v201)) = res_main_v201 V0 :=
  (val5_1_keep V0 main_v201 (by decide)).trans (val5_main_v201 V0)
theorem val5_1_main_v224 (V0 : Valuation τ sig (Elt F)) : val5_1 V0 (no_index (Proc.devRef .tc main_v224)) = res_main_v224 V0 :=
  (val5_1_keep V0 main_v224 (by decide)).trans (val5_main_v224 V0)
theorem val5_1_main_v225 (V0 : Valuation τ sig (Elt F)) : val5_1 V0 (no_index (Proc.devRef .tc main_v225)) = res_main_v225 V0 :=
  (val5_1_keep V0 main_v225 (by decide)).trans (val5_main_v225 V0)
set_option maxRecDepth 8192 in
set_option maxHeartbeats 2000000 in
theorem val5_1_main_v249 (V0 : Valuation τ sig (Elt F)) : val5_1 V0 (no_index (Proc.devRef .tc main_v249)) = res_main_v249 V0 := by
  unfold val5_1
  simp only [ops_part5_0, TRef.binary, TRef.nullary, TRef.quaternary, TRef.unary, TRef.toBuf, TRef.ofBuf, cast_eq]
  after_results_simp
  simp only [val5_main_v242, val5_main_v201] <;> rfl
set_option maxRecDepth 8192 in
set_option maxHeartbeats 2000000 in
theorem val5_1_main_v250 (V0 : Valuation τ sig (Elt F)) : val5_1 V0 (no_index (Proc.devRef .tc main_v250)) = res_main_v250 V0 := by
  unfold val5_1
  simp only [ops_part5_0, TRef.binary, TRef.nullary, TRef.quaternary, TRef.unary, TRef.toBuf, TRef.ofBuf, cast_eq]
  after_results_simp
  simp only [val5_main_v242, val5_main_v201, val5_main_v228] <;> rfl
set_option maxRecDepth 8192 in
set_option maxHeartbeats 2000000 in
theorem val5_1_main_v251 (V0 : Valuation τ sig (Elt F)) : val5_1 V0 (no_index (Proc.devRef .tc main_v251)) = res_main_v251 V0 := by
  unfold val5_1
  simp only [ops_part5_0, TRef.binary, TRef.nullary, TRef.quaternary, TRef.unary, TRef.toBuf, TRef.ofBuf, cast_eq]
  after_results_simp
  simp only [val5_main_v242, val5_main_v201, val5_main_v228, val5_main_v226] <;> rfl
set_option maxRecDepth 8192 in
set_option maxHeartbeats 2000000 in
theorem val5_1_main_v253 (V0 : Valuation τ sig (Elt F)) : val5_1 V0 (no_index (Proc.devRef .tc main_v253)) = res_main_v253 V0 := by
  unfold val5_1
  simp only [ops_part5_0, TRef.binary, TRef.nullary, TRef.quaternary, TRef.unary, TRef.toBuf, TRef.ofBuf, cast_eq]
  after_results_simp
  simp only [val5_main_arg2] <;> rfl
set_option maxRecDepth 8192 in
set_option maxHeartbeats 2000000 in
theorem val5_1_main_v262 (V0 : Valuation τ sig (Elt F)) : val5_1 V0 (no_index (Proc.devRef .tc main_v262)) = addf (broadcastInDim S16384x8192 ![0, 1] bcast_S16384x1_S16384x8192_0_1 (broadcastInDim S16384x1 ![0] bcast_S16384_S16384x1_0 (Host.reduceAdd (mulf (res_main_v251 V0) (res_main_v251 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v253 V0) (res_main_v253 V0)) (constant S_ .f32 0x00000000#32) reducesTo_S8192x32_S8192_d1 h_S_))) := by
  unfold val5_1
  simp only [ops_part5_0, TRef.binary, TRef.nullary, TRef.quaternary, TRef.unary, TRef.toBuf, TRef.ofBuf, cast_eq]
  after_results_simp
  simp only [val5_main_arg2, val5_main_v242, val5_main_v201, val5_main_v228, val5_main_v226] <;> rfl
set_option maxRecDepth 8192 in
set_option maxHeartbeats 2000000 in
theorem val5_1_main_v263 (V0 : Valuation τ sig (Elt F)) : val5_1 V0 (no_index (Proc.devRef .tc main_v263)) = broadcastInDim S16384x32 ![] bcast_S_S16384x32 (constant S_ .f32 0x40000000#32) := by
  unfold val5_1
  simp only [ops_part5_0, TRef.binary, TRef.nullary, TRef.quaternary, TRef.unary, TRef.toBuf, TRef.ofBuf, cast_eq]
  after_results_simp
  all_goals rfl

/-- The device's buffer contents after @main's first 365 operations. -/
def val5_2 (V0 : Valuation τ sig (Elt F)) : Valuation τ sig (Elt F) := after ops_part5_1 (val5_1 V0)
/-- The buffers that window `ops_part5_1`'s operations write. -/
abbrev ops_part5_1_W : List (Ref sig .tc) := [main_v264, main_v265, main_v266, main_v267, main_v268, main_cst_59, main_v269, main_v270, main_v271, main_v272, main_v273, main_call4_v0, main_call4_cst, main_call4_c, main_call4_v1_0, main_v274, main_call5_v0, main_v275, main_v276, main_v277, main_v278, main_v279, main_cst_60, main_v280, main_v281, main_v282, main_cst_61, main_v283, main_v284, main_v285]
set_option maxRecDepth 8192 in
theorem ops_part5_1_writes : (ops_part5_1 : List (HloOp τ sig (Elt F))).Forall fun op => op.writes ⊆ (ops_part5_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part5_1` does not write keeps its contents through it. -/
theorem val5_2_keep (V0 : Valuation τ sig (Elt F)) (r : Ref sig .tc) (h : r ∉ ops_part5_1_W) :
    val5_2 V0 (Proc.devRef .tc r) = val5_1 V0 (Proc.devRef .tc r) :=
  after_of_writes_sub ops_part5_1 _ ops_part5_1_writes h
theorem val5_2_main_arg0 (V0 : Valuation τ sig (Elt F)) : val5_2 V0 (no_index (Proc.devRef .tc main_arg0)) = V0 (Proc.devRef .tc main_arg0) :=
  (val5_2_keep V0 main_arg0 (by decide)).trans (val5_1_main_arg0 V0)
theorem val5_2_main_arg1 (V0 : Valuation τ sig (Elt F)) : val5_2 V0 (no_index (Proc.devRef .tc main_arg1)) = V0 (Proc.devRef .tc main_arg1) :=
  (val5_2_keep V0 main_arg1 (by decide)).trans (val5_1_main_arg1 V0)
theorem val5_2_main_arg2 (V0 : Valuation τ sig (Elt F)) : val5_2 V0 (no_index (Proc.devRef .tc main_arg2)) = V0 (Proc.devRef .tc main_arg2) :=
  (val5_2_keep V0 main_arg2 (by decide)).trans (val5_1_main_arg2 V0)
theorem val5_2_main_v201 (V0 : Valuation τ sig (Elt F)) : val5_2 V0 (no_index (Proc.devRef .tc main_v201)) = res_main_v201 V0 :=
  (val5_2_keep V0 main_v201 (by decide)).trans (val5_1_main_v201 V0)
theorem val5_2_main_v224 (V0 : Valuation τ sig (Elt F)) : val5_2 V0 (no_index (Proc.devRef .tc main_v224)) = res_main_v224 V0 :=
  (val5_2_keep V0 main_v224 (by decide)).trans (val5_1_main_v224 V0)
theorem val5_2_main_v225 (V0 : Valuation τ sig (Elt F)) : val5_2 V0 (no_index (Proc.devRef .tc main_v225)) = res_main_v225 V0 :=
  (val5_2_keep V0 main_v225 (by decide)).trans (val5_1_main_v225 V0)
theorem val5_2_main_v249 (V0 : Valuation τ sig (Elt F)) : val5_2 V0 (no_index (Proc.devRef .tc main_v249)) = res_main_v249 V0 :=
  (val5_2_keep V0 main_v249 (by decide)).trans (val5_1_main_v249 V0)
theorem val5_2_main_v250 (V0 : Valuation τ sig (Elt F)) : val5_2 V0 (no_index (Proc.devRef .tc main_v250)) = res_main_v250 V0 :=
  (val5_2_keep V0 main_v250 (by decide)).trans (val5_1_main_v250 V0)
set_option maxRecDepth 8192 in
set_option maxHeartbeats 2000000 in
theorem val5_2_main_v274 (V0 : Valuation τ sig (Elt F)) : val5_2 V0 (no_index (Proc.devRef .tc main_v274)) = res_main_v274 V0 := by
  unfold val5_2
  simp only [ops_part5_1, TRef.binary, TRef.nullary, TRef.quaternary, TRef.unary, TRef.toBuf, TRef.ofBuf, cast_eq]
  after_results_simp
  simp only [val5_1_main_v253, val5_1_main_v251, val5_1_main_v263, val5_1_main_v262, val5_1_main_v201] <;> rfl
set_option maxRecDepth 8192 in
set_option maxHeartbeats 2000000 in
theorem val5_2_main_v275 (V0 : Valuation τ sig (Elt F)) : val5_2 V0 (no_index (Proc.devRef .tc main_v275)) = res_main_v275 V0 := by
  unfold val5_2
  simp only [ops_part5_1, TRef.binary, TRef.nullary, TRef.quaternary, TRef.unary, TRef.toBuf, TRef.ofBuf, cast_eq]
  after_results_simp
  simp only [val5_1_main_v251, val5_1_main_v263, val5_1_main_v262, val5_1_main_v201, val5_1_main_v253] <;> rfl
set_option maxRecDepth 8192 in
set_option maxHeartbeats 2000000 in
theorem val5_2_main_v276 (V0 : Valuation τ sig (Elt F)) : val5_2 V0 (no_index (Proc.devRef .tc main_v276)) = res_main_v276 V0 := by
  unfold val5_2
  simp only [ops_part5_1, TRef.binary, TRef.nullary, TRef.quaternary, TRef.unary, TRef.toBuf, TRef.ofBuf, cast_eq]
  after_results_simp
  simp only [val5_1_main_v263, val5_1_main_v262, val5_1_main_v201, val5_1_main_v253, val5_1_main_v251] <;> rfl
set_option maxRecDepth 8192 in
set_option maxHeartbeats 2000000 in
theorem val5_2_main_v278 (V0 : Valuation τ sig (Elt F)) : val5_2 V0 (no_index (Proc.devRef .tc main_v278)) = res_main_v278 V0 := by
  unfold val5_2
  simp only [ops_part5_1, TRef.binary, TRef.nullary, TRef.quaternary, TRef.unary, TRef.toBuf, TRef.ofBuf, cast_eq]
  after_results_simp
  simp only [val5_1_main_arg2] <;> rfl
set_option maxRecDepth 8192 in
set_option maxHeartbeats 2000000 in
theorem val5_2_main_v284 (V0 : Valuation τ sig (Elt F)) : val5_2 V0 (no_index (Proc.devRef .tc main_v284)) = broadcastInDim S1x8192 ![1] bcast_S8192_S1x8192_1 (Host.reduceAdd (mulf (res_main_v278 V0) (res_main_v278 V0)) (constant S_ .f32 0x00000000#32) reducesTo_S8192x32_S8192_d1 h_S_) := by
  unfold val5_2
  simp only [ops_part5_1, TRef.binary, TRef.nullary, TRef.quaternary, TRef.unary, TRef.toBuf, TRef.ofBuf, cast_eq]
  after_results_simp
  simp only [val5_1_main_arg2] <;> rfl
set_option maxRecDepth 8192 in
set_option maxHeartbeats 2000000 in
theorem val5_2_main_v285 (V0 : Valuation τ sig (Elt F)) : val5_2 V0 (no_index (Proc.devRef .tc main_v285)) = broadcastInDim S16384x8192 ![0, 1] bcast_S16384x1_S16384x8192_0_1 (broadcastInDim S16384x1 ![0] bcast_S16384_S16384x1_0 (Host.reduceAdd (mulf (res_main_v276 V0) (res_main_v276 V0)) (constant S_ .f32 0x00000000#32) reducesTo_S16384x32_S16384_d1 h_S_)) := by
  unfold val5_2
  simp only [ops_part5_1, TRef.binary, TRef.nullary, TRef.quaternary, TRef.unary, TRef.toBuf, TRef.ofBuf, cast_eq]
  after_results_simp
  simp only [val5_1_main_v263, val5_1_main_v262, val5_1_main_v201, val5_1_main_v253, val5_1_main_v251] <;> rfl

/-- The device's buffer contents after @main's first 6 windows. -/
def val6 (V0 : Valuation τ sig (Elt F)) : Valuation τ sig (Elt F) := after ops_part5_2 (val5_2 V0)
/-- The buffers that window `ops_part5_2`'s operations write. -/
abbrev ops_part5_2_W : List (Ref sig .tc) := [main_v286, main_v287, main_cst_62, main_v288, main_v289, main_v290, main_v291, main_v292, main_v293, main_cst_63]
set_option maxRecDepth 8192 in
theorem ops_part5_2_writes : (ops_part5_2 : List (HloOp τ sig (Elt F))).Forall fun op => op.writes ⊆ (ops_part5_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part5_2` does not write keeps its contents through it. -/
theorem val6_keep (V0 : Valuation τ sig (Elt F)) (r : Ref sig .tc) (h : r ∉ ops_part5_2_W) :
    val6 V0 (Proc.devRef .tc r) = val5_2 V0 (Proc.devRef .tc r) :=
  after_of_writes_sub ops_part5_2 _ ops_part5_2_writes h
theorem val6_main_arg0 (V0 : Valuation τ sig (Elt F)) : val6 V0 (no_index (Proc.devRef .tc main_arg0)) = V0 (Proc.devRef .tc main_arg0) :=
  (val6_keep V0 main_arg0 (by decide)).trans (val5_2_main_arg0 V0)
theorem val6_main_arg1 (V0 : Valuation τ sig (Elt F)) : val6 V0 (no_index (Proc.devRef .tc main_arg1)) = V0 (Proc.devRef .tc main_arg1) :=
  (val6_keep V0 main_arg1 (by decide)).trans (val5_2_main_arg1 V0)
theorem val6_main_arg2 (V0 : Valuation τ sig (Elt F)) : val6 V0 (no_index (Proc.devRef .tc main_arg2)) = V0 (Proc.devRef .tc main_arg2) :=
  (val6_keep V0 main_arg2 (by decide)).trans (val5_2_main_arg2 V0)
theorem val6_main_v201 (V0 : Valuation τ sig (Elt F)) : val6 V0 (no_index (Proc.devRef .tc main_v201)) = res_main_v201 V0 :=
  (val6_keep V0 main_v201 (by decide)).trans (val5_2_main_v201 V0)
theorem val6_main_v224 (V0 : Valuation τ sig (Elt F)) : val6 V0 (no_index (Proc.devRef .tc main_v224)) = res_main_v224 V0 :=
  (val6_keep V0 main_v224 (by decide)).trans (val5_2_main_v224 V0)
theorem val6_main_v225 (V0 : Valuation τ sig (Elt F)) : val6 V0 (no_index (Proc.devRef .tc main_v225)) = res_main_v225 V0 :=
  (val6_keep V0 main_v225 (by decide)).trans (val5_2_main_v225 V0)
theorem val6_main_v249 (V0 : Valuation τ sig (Elt F)) : val6 V0 (no_index (Proc.devRef .tc main_v249)) = res_main_v249 V0 :=
  (val6_keep V0 main_v249 (by decide)).trans (val5_2_main_v249 V0)
theorem val6_main_v250 (V0 : Valuation τ sig (Elt F)) : val6 V0 (no_index (Proc.devRef .tc main_v250)) = res_main_v250 V0 :=
  (val6_keep V0 main_v250 (by decide)).trans (val5_2_main_v250 V0)
theorem val6_main_v274 (V0 : Valuation τ sig (Elt F)) : val6 V0 (no_index (Proc.devRef .tc main_v274)) = res_main_v274 V0 :=
  (val6_keep V0 main_v274 (by decide)).trans (val5_2_main_v274 V0)
theorem val6_main_v275 (V0 : Valuation τ sig (Elt F)) : val6 V0 (no_index (Proc.devRef .tc main_v275)) = res_main_v275 V0 :=
  (val6_keep V0 main_v275 (by decide)).trans (val5_2_main_v275 V0)
theorem val6_main_v276 (V0 : Valuation τ sig (Elt F)) : val6 V0 (no_index (Proc.devRef .tc main_v276)) = res_main_v276 V0 :=
  (val6_keep V0 main_v276 (by decide)).trans (val5_2_main_v276 V0)
theorem val6_main_v278 (V0 : Valuation τ sig (Elt F)) : val6 V0 (no_index (Proc.devRef .tc main_v278)) = res_main_v278 V0 :=
  (val6_keep V0 main_v278 (by decide)).trans (val5_2_main_v278 V0)
set_option maxRecDepth 8192 in
set_option maxHeartbeats 1000000 in
theorem val6_main_v293 (V0 : Valuation τ sig (Elt F)) : val6 V0 (no_index (Proc.devRef .tc main_v293)) = Host.negf (subf (addf (broadcastInDim S16384x8192 ![0, 1] bcast_S16384x1_S16384x8192_0_1 (broadcastInDim S16384x1 ![0] bcast_S16384_S16384x1_0 (Host.reduceAdd (mulf (res_main_v276 V0) (res_main_v276 V0)) (constant S_ .f32 0x00000000#32) reducesTo_S16384x32_S16384_d1 h_S_))) (broadcastInDim S16384x8192 ![0, 1] bcast_S1x8192_S16384x8192_0_1 (broadcastInDim S1x8192 ![1] bcast_S8192_S1x8192_1 (Host.reduceAdd (mulf (res_main_v278 V0) (res_main_v278 V0)) (constant S_ .f32 0x00000000#32) reducesTo_S8192x32_S8192_d1 h_S_)))) (Host.dotGeneral dot_S16384x32_S32x8192_S16384x8192_1_0_0_1_n_n none (mulf (broadcastInDim S16384x32 ![] bcast_S_S16384x32 (constant S_ .f32 0x40000000#32)) (res_main_v276 V0)) (transpose S32x8192 [1, 0] (res_main_v278 V0) transposes_S8192x32_S32x8192_1_0))) := by
  unfold val6
  simp only [ops_part5_2]
  after_results_simp
  simp only [val5_2_main_v278, val5_2_main_v276, val5_2_main_v284, val5_2_main_v285] <;> rfl
set_option maxRecDepth 8192 in
set_option maxHeartbeats 1000000 in
theorem val6_main_cst_63 (V0 : Valuation τ sig (Elt F)) : val6 V0 (no_index (Proc.devRef .tc main_cst_63)) = constant S_ .f32 0x3F7FBE77#32 := by
  unfold val6
  simp only [ops_part5_2]
  after_results_simp
  all_goals rfl

/-- The device's buffer contents after @main's first 7 windows. -/
def val7 (V0 : Valuation τ sig (Elt F)) : Valuation τ sig (Elt F) := after ops_part6 (val6 V0)
/-- The buffers that window `main_part6`'s operations write. -/
abbrev ops_part6_W : List (Ref sig .tc) := [main_v294, main_v295, main_v296, main_v297, main_v298, main_call6_v0, main_call6_cst, main_call6_c, main_call6_v1_0, main_v299, main_call7_v0, main_v300, main_v301, main_v302, main_v303, main_v304, main_v305, main_v306, main_cst_64, main_v307, main_v308, main_v309, main_v310, main_cst_65, main_v311, main_cst_66, main_v312, main_cst_67, main_v313, main_v314, main_v315, main_cst_68, main_v316, main_cst_69, main_v317, main_v318, main_v319, main_cst_70, main_v320, main_cst_71, main_v321, main_cst_72, main_v322, main_v323, main_v324, main_cst_73, main_v325, main_v326, main_cst_74, main_v327, main_v328, main_v329, main_v330, main_v331, main_v332, main_v333, main_v334, main_v335, main_v336]
set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part6` does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
set_option maxRecDepth 8192 in
set_option maxHeartbeats 2000000 in
theorem val7_main_v329 (V0 : Valuation τ sig (Elt F)) : val7 V0 (no_index (Proc.devRef .tc main_v329)) = addf (addf (Host.divf (Host.reduceAdd (mulf (res_main_v314 V0) (res_main_v314 V0)) (constant S_ .f32 0x00000000#32) reducesTo_S16x32x32x32_S_d0_1_2_3 h_S_) (constant S_ .f32 0x49000000#32)) (mulf (constant S_ .f32 0x3E800000#32) (Host.divf (Host.reduceAdd (mulf (res_main_v309 V0) (res_main_v309 V0)) (constant S_ .f32 0x00000000#32) reducesTo_S16x32x32x32_S_d0_1_2_3 h_S_) (constant S_ .f32 0x49000000#32)))) (mulf (Host.negf (Host.reduceAdd (mulf (res_main_v321 V0) (Host.log (addf (res_main_v321 V0) (constant S_ .f32 0x2EDBE6FF#32)))) (constant S_ .f32 0x00000000#32) reducesTo_S_S_d h_S_)) (constant S_ .f32 0x3F800000#32)) := by
  unfold val7
  simp only [ops_part6, TRef.binary, TRef.nullary, TRef.quaternary, TRef.unary, TRef.toBuf, TRef.ofBuf, cast_eq]
  after_results_simp
  try dsimp only [Matrix.cons_val]
  try after_results_simp
  simp only [val6_main_cst_63, val6_main_v293, val6_main_v201, val6_main_v274, val6_main_v249, val6_main_v224, val6_main_arg0, val6_main_v278, val6_main_v275, val6_main_v250, val6_main_v225] <;> rfl
set_option maxRecDepth 8192 in
set_option maxHeartbeats 2000000 in
theorem val7_main_v331 (V0 : Valuation τ sig (Elt F)) : val7 V0 (no_index (Proc.devRef .tc main_v331)) = addf (V0 (Proc.devRef .tc main_arg0)) (subf (res_main_v308 V0) (V0 (Proc.devRef .tc main_arg0))) := by
  unfold val7
  simp only [ops_part6, TRef.binary, TRef.nullary, TRef.quaternary, TRef.unary, TRef.toBuf, TRef.ofBuf, cast_eq]
  after_results_simp
  try dsimp only [Matrix.cons_val]
  try after_results_simp
  simp only [val6_main_cst_63, val6_main_v293, val6_main_v201, val6_main_v278, val6_main_v275, val6_main_v250, val6_main_v225, val6_main_arg0] <;> rfl
set_option maxRecDepth 8192 in
set_option maxHeartbeats 2000000 in
theorem val7_main_v336 (V0 : Valuation τ sig (Elt F)) : val7 V0 (no_index (Proc.devRef .tc main_v336)) = (concatenate S4x16384 0 [⟨S1x16384, ((broadcastInDim S1x16384 ![1] bcast_S16384_S1x16384_1 (res_main_v224 V0)) : (⟨S1x16384, .i32⟩ : BufTy).Contents (Elt F))⟩, ⟨S1x16384, ((broadcastInDim S1x16384 ![1] bcast_S16384_S1x16384_1 (res_main_v249 V0)) : (⟨S1x16384, .i32⟩ : BufTy).Contents (Elt F))⟩, ⟨S1x16384, ((broadcastInDim S1x16384 ![1] bcast_S16384_S1x16384_1 (res_main_v274 V0)) : (⟨S1x16384, .i32⟩ : BufTy).Contents (Elt F))⟩, ⟨S1x16384, ((broadcastInDim S1x16384 ![1] bcast_S16384_S1x16384_1 (res_main_v299 V0)) : (⟨S1x16384, .i32⟩ : BufTy).Contents (Elt F))⟩] concatenates_S1x16384_S1x16384_S1x16384_S1x16384_S4x16384_d0 : (⟨S4x16384, .i32⟩ : BufTy).Contents (Elt F)) := by
  unfold val7
  simp only [ops_part6, TRef.binary, TRef.nullary, TRef.quaternary, TRef.unary, TRef.toBuf, TRef.ofBuf, cast_eq]
  after_results_simp
  try dsimp only [Matrix.cons_val]
  try after_results_simp
  simp only [val6_main_cst_63, val6_main_v293, val6_main_v201, val6_main_v274, val6_main_v249, val6_main_v224] <;> rfl

theorem after_ops (V0 : Valuation τ sig (Elt F)) : after ops V0 = val7 V0 := by
  simp only [ops, ops_part4, ops_part5, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v331) = addf ((launchContents m c) (Proc.devRef .tc main_arg0)) (subf (res_main_v308 (launchContents m c)) ((launchContents m c) (Proc.devRef .tc main_arg0)))
      ∧ r.2.mem ((c.tc : Thread nD τ).loc main_v329) = addf (addf (Host.divf (Host.reduceAdd (mulf (res_main_v314 (launchContents m c)) (res_main_v314 (launchContents m c))) (constant S_ .f32 0x00000000#32) reducesTo_S16x32x32x32_S_d0_1_2_3 h_S_) (constant S_ .f32 0x49000000#32)) (mulf (constant S_ .f32 0x3E800000#32) (Host.divf (Host.reduceAdd (mulf (res_main_v309 (launchContents m c)) (res_main_v309 (launchContents m c))) (constant S_ .f32 0x00000000#32) reducesTo_S16x32x32x32_S_d0_1_2_3 h_S_) (constant S_ .f32 0x49000000#32)))) (mulf (Host.negf (Host.reduceAdd (mulf (res_main_v321 (launchContents m c)) (Host.log (addf (res_main_v321 (launchContents m c)) (constant S_ .f32 0x2EDBE6FF#32)))) (constant S_ .f32 0x00000000#32) reducesTo_S_S_d h_S_)) (constant S_ .f32 0x3F800000#32))
      ∧ r.2.mem ((c.tc : Thread nD τ).loc main_v336) = (concatenate S4x16384 0 [⟨S1x16384, ((broadcastInDim S1x16384 ![1] bcast_S16384_S1x16384_1 (res_main_v224 (launchContents m c))) : (⟨S1x16384, .i32⟩ : BufTy).Contents (Elt F))⟩, ⟨S1x16384, ((broadcastInDim S1x16384 ![1] bcast_S16384_S1x16384_1 (res_main_v249 (launchContents m c))) : (⟨S1x16384, .i32⟩ : BufTy).Contents (Elt F))⟩, ⟨S1x16384, ((broadcastInDim S1x16384 ![1] bcast_S16384_S1x16384_1 (res_main_v274 (launchContents m c))) : (⟨S1x16384, .i32⟩ : BufTy).Contents (Elt F))⟩, ⟨S1x16384, ((broadcastInDim S1x16384 ![1] bcast_S16384_S1x16384_1 (res_main_v299 (launchContents m c))) : (⟨S1x16384, .i32⟩ : BufTy).Contents (Elt F))⟩] concatenates_S1x16384_S1x16384_S1x16384_S1x16384_S4x16384_d0 : (⟨S4x16384, .i32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v331).trans ((congrFun (after_ops (launchContents m c)) (Proc.devRef .tc main_v331)).trans (val7_main_v331 (launchContents m c))),
      (h c main_v329).trans ((congrFun (after_ops (launchContents m c)) (Proc.devRef .tc main_v329)).trans (val7_main_v329 (launchContents m c))),
      (h c main_v336).trans ((congrFun (after_ops (launchContents m c)) (Proc.devRef .tc main_v336)).trans (val7_main_v336 (launchContents m c))),
      (h c main_arg0).trans ((congrFun (after_ops (launchContents m c)) (Proc.devRef .tc main_arg0)).trans (val7_main_arg0 (launchContents m c))),
      (h c main_arg1).trans ((congrFun (after_ops (launchContents m c)) (Proc.devRef .tc main_arg1)).trans (val7_main_arg1 (launchContents m c))),
      (h c main_arg2).trans ((congrFun (after_ops (launchContents m c)) (Proc.devRef .tc main_arg2)).trans (val7_main_arg2 (launchContents m c)))⟩)
    (run_seq scopedRefs_eq scopedSems_eq defs main (fun _ => ops) main_eq (fun _ => ops_sub) m ρ fun _ => ops_fresh)

end Cert.ReferenceIdeal.Value

end
-- ==== Proof.Frames.lean ====
/- The three frames and the ledger of the kernel's one named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Ref.Run
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

/-- The reference is host operations only: its run leaves the arguments, and it has no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The factor 1.001001 stands for the reciprocal of the temperature, which is 0.999 rounded to f32. -/
theorem preserves : Cert.preserves_Kernel_KernelIdeal :=
  IdealRules.named_const.statement Cert.KernelIdeal.κ "inv_temp" .f32 0x3F8020CD#32
    (((16760439 / 16777216)⁻¹ : ℝ) : EReal) rfl

end Cert.Proof

end
-- ==== Proof.Model.lean ====
/- One grid point of the kernel, stage by stage: the Threefry words of a chunk of codes, their Gumbel noise, the chunk's
   scores, the running maximum with its index, the one-hot product, and the four codebooks in turn. -/
module

public import proofs.«01_k».proof.Proof.Gen.KernelIdeal.Frame

@[expose] public section

noncomputable section

namespace Cert.KernelIdeal.Tile

open Cert.KernelIdeal Cert.KernelIdeal.Gen Idealize.ShloMosaic

variable {F : FTy → Type} [FloatOps F] [Named F]

/-- The words of one chunk: 512 rows, 1024 codes. -/
abbrev Words := IVec S512x1024 32

/-- One word at every place. -/
abbrev word (w : BitVec 32) : Words := broadcast S512x1024 w

/-- One mixing round of Threefry, the second word rotated left by `a` (and `b = 32 - a`), handed on to `k`. -/
def round {α : Type} (a b : BitVec 32) (k : Words → Words → α) (x0 x1 : Words) : α :=
  k (addi x0 x1) (xori (ori (shli x1 (word a)) (shrui x1 (word b))) (addi x0 x1))

/-- One key injection. -/
def inject {α : Type} (a b j : BitVec 32) (k : Words → Words → α) (x0 x1 : Words) : α :=
  k (addi x0 (word a)) (addi (addi x1 (word b)) (word j))

/-- The four rounds of an even group. -/
def evenGroup {α : Type} (k : Words → Words → α) : Words → Words → α :=
  round 13#32 19#32 (round 15#32 17#32 (round 26#32 6#32 (round 6#32 26#32 k)))

/-- The four rounds of an odd group. -/
def oddGroup {α : Type} (k : Words → Words → α) : Words → Words → α :=
  round 17#32 15#32 (round 29#32 3#32 (round 16#32 16#32 (round 24#32 8#32 k)))

/-- Threefry-2x32 of the words (0, p) under the key (a, b), with c the key schedule's third word; its two words xored. -/
def threefry (a b c : BitVec 32) (p : Words) : Words :=
  evenGroup (inject b c 1#32 (oddGroup (inject c a 2#32 (evenGroup (inject a b 3#32 (oddGroup (inject b c 4#32
    (evenGroup (inject c a 5#32 fun x0 x1 => xori x0 x1))))))))) (addi (word 0#32) (word a)) (addi p (word b))

/-- The code's number within its chunk. -/
def col : Words := iota .tc S512x1024 32 [1] iota_S512x1024_d1_w32

/-- The counter of the chunk that starts at code 0: row · 8192 + code. -/
def counter (i : grid0.Coords) : Words :=
  addi (muli (addi (iota .tc S512x1024 32 [0] iota_S512x1024_d0_w32)
    (broadcast S512x1024 (Scalar.muli (BitVec.ofNat 32 (i 0).val) 512#32))) (word 8192#32)) col

/-- The Gumbel noise of random words. -/
def gumbel (w : Words) : FVec F S512x1024 .f32 :=
  subf (broadcast S512x1024 (Scalar.ofBits .f32 0x00000000#32)) (log
    (subf (broadcast S512x1024 (Scalar.ofBits .f32 0x00000000#32)) (log
      (maximumf (addf (bitcastToFloat .f32 (ori (shrui w (word 9#32)) (word 1065353216#32)))
        (broadcast S512x1024 (Scalar.ofBits .f32 0xBF800000#32)))
        (broadcast S512x1024 (Scalar.ofBits .f32 0x00800000#32))))))

/-- The first code of chunk `q`. -/
abbrev base (q : Fin 8) : BitVec 32 := BitVec.ofNat 32 (1024 * q.val)

theorem slices_codes (q : Fin 8) : S8192x32.Slices ![1024 * q.val, 0] S1024x32 := by
  revert q; decide

theorem slices_norms (q : Fin 8) : S8192.Slices ![1024 * q.val] S1024 := by
  revert q; decide

/-- The squared norms of the codes. -/
def codeNorms (cb : FVec F S8192x32 .f32) : FVec F S8192 .f32 :=
  multiReduction .add [1] S8192 (mulf cb cb) 0x00000000#32 reduces_S8192x32_S8192 (.inl rfl) rfl

/-- The squared norms of the rows. -/
def rowNorms (r : FVec F S512x32 .f32) : FVec F S512x1 .f32 :=
  shapeCast S512x1 (multiReduction .add [1] S512 (mulf r r) 0x00000000#32 reduces_S512x32_S512 (.inl rfl) rfl)
    shapeCasts_S512_S512x1

/-- The logits of chunk `q`: minus the squared distances, over the temperature. -/
def logits (q : Fin 8) (r : FVec F S512x32 .f32) (cb : FVec F S8192x32 .f32) : FVec F S512x1024 .f32 :=
  mulf (subf (broadcast S512x1024 (Scalar.ofBits .f32 0x00000000#32))
    (subf (addf (broadcastTo S512x1024 (rowNorms r) broadcasts_S512x1_S512x1024)
        (broadcastTo S512x1024 (shapeCast S1x1024 (extractStridedSlice S1024 ![1024 * q.val] (codeNorms cb) (slices_norms q))
          shapeCasts_S1024_S1x1024) broadcasts_S1x1024_S512x1024))
      (mulf (broadcast S512x1024 (Scalar.ofBits .f32 0x40000000#32))
        (matmul dot_S512x32_S1024x32_S512x1024_1_1_0_0_n_n none (truncf .bf16 r bitsLt_bf16_f32)
          (extractStridedSlice S1024x32 ![1024 * q.val, 0] (truncf .bf16 cb bitsLt_bf16_f32) (slices_codes q))
          (constant S512x1024 .f32 0x00000000#32)))))
    (broadcast S512x1024 (Named.named κ "inv_temp" 0x3F8020CD#32))

/-- The scores of chunk `q`. -/
def scores (a b c : BitVec 32) (i : grid0.Coords) (r : FVec F S512x32 .f32) (cb : FVec F S8192x32 .f32) (q : Fin 8) :
    FVec F S512x1024 .f32 :=
  addf (gumbel (threefry a b c (addi (counter i) (word (base q))))) (logits q r cb)

/-- The maximum of each row of a chunk. -/
def chunkMax (v : FVec F S512x1024 .f32) : FVec F S512x1 .f32 :=
  shapeCast S512x1 (multiReduction .maximumf [1] S512 v 0xFF800000#32 reduces_S512x1024_S512 (.inl rfl) rfl)
    shapeCasts_S512_S512x1

/-- The first code of a chunk at which the row has its maximum. -/
def chunkIdx (q : Fin 8) (v : FVec F S512x1024 .f32) : IVec S512x1 32 :=
  shapeCast S512x1 (multiReductionI .minsi [1] S512
    (select (cmpf .oeq v (broadcastTo S512x1024 (chunkMax v) broadcasts_S512x1_S512x1024)) (addi col (word (base q)))
      (word 8192#32)) 2147483647#32 reduces_S512x1024_S512 rfl) shapeCasts_S512_S512x1

/-- The maximum kept after a chunk of maximum `m`. -/
def keepMax (m rmax : FVec F S512x1 .f32) : FVec F S512x1 .f32 :=
  select (cmpf .ogt m rmax) (extf .f32 (truncf .bf16 m bitsLt_bf16_f32) bitsLt_bf16_f32) rmax

/-- The index kept after a chunk of maximum `m`, taken at `j`. -/
def keepIdx (m rmax : FVec F S512x1 .f32) (j ridx : IVec S512x1 32) : IVec S512x1 32 :=
  select (cmpf .ogt m rmax) j ridx

/-- The running maximum after `n` chunks. -/
def maxAfter (v : Fin 8 → FVec F S512x1024 .f32) (n : ℕ) : FVec F S512x1 .f32 :=
  Nat.rec (broadcast S512x1 (Scalar.ofBits .f32 0xFF800000#32)) (fun k s => keepMax (chunkMax (v (Fin.ofNat 8 k))) s) n

/-- Its index after `n` chunks. -/
def idxAfter (v : Fin 8 → FVec F S512x1024 .f32) (n : ℕ) : IVec S512x1 32 :=
  Nat.rec (broadcast S512x1 0#32) (fun k s => keepIdx (chunkMax (v (Fin.ofNat 8 k))) (maxAfter v k)
    (chunkIdx (Fin.ofNat 8 k) (v (Fin.ofNat 8 k))) s) n

/-- The codes sampled for the rows `r` from the codebook `cb`. -/
def sample (a b c : BitVec 32) (i : grid0.Coords) (r : FVec F S512x32 .f32) (cb : FVec F S8192x32 .f32) : IVec S512x1 32 :=
  idxAfter (scores a b c i r cb) 8

/-- The codes' vectors, by a product with the one-hot rows. -/
def lookup (j : IVec S512x1 32) (cb : FVec F S8192x32 .f32) : FVec F S512x32 .f32 :=
  matmul dot_S512x8192_S8192x32_S512x32_1_0_0_1_n_n (some .fp32)
    (sitofp .f32 (extui 32 (cmpi .eq (iota .tc S512x8192 32 [1] iota_S512x8192_d1_w32)
      (broadcastTo S512x8192 j broadcasts_S512x1_S512x8192)) natLt_1_32)) cb (constant S512x32 .f32 0x00000000#32)

/-- The four keys in turn. -/
def sample0 (i : grid0.Coords) (r : FVec F S512x32 .f32) (cb : FVec F S8192x32 .f32) : IVec S512x1 32 :=
  sample 507451445#32 1853169794#32 1805329261#32 i r cb

def sample1 (i : grid0.Coords) (r : FVec F S512x32 .f32) (cb : FVec F S8192x32 .f32) : IVec S512x1 32 :=
  sample 1948878966#32 4237131848#32 2473923556#32 i r cb

def sample2 (i : grid0.Coords) (r : FVec F S512x32 .f32) (cb : FVec F S8192x32 .f32) : IVec S512x1 32 :=
  sample 2441914641#32 3819641963#32 1777774240#32 i r cb

def sample3 (i : grid0.Coords) (r : FVec F S512x32 .f32) (cb : FVec F S8192x32 .f32) : IVec S512x1 32 :=
  sample 3568232559#32 2761185182#32 1810605099#32 i r cb

/-- The rotated rows. -/
def rotate (x : FVec F S512x32 .f32) (rot : FVec F S32x32 .f32) : FVec F S512x32 .f32 :=
  matmul dot_S512x32_S32x32_S512x32_1_0_0_1_n_n none
    (truncf .bf16 (shapeCast S512x32 x shapeCasts_S512x32_S512x32) bitsLt_bf16_f32) (truncf .bf16 rot bitsLt_bf16_f32)
    (constant S512x32 .f32 0x00000000#32)

/-- A codebook as loaded. -/
def book (b : FVec F S1x8192x32 .f32) : FVec F S8192x32 .f32 := shapeCast S8192x32 b shapeCasts_S1x8192x32_S8192x32

/-- What is left of the rows `r` once the code sampled is taken off. -/
def rest (r : FVec F S512x32 .f32) (j : IVec S512x1 32) (cb : FVec F S8192x32 .f32) : FVec F S512x32 .f32 :=
  subf r (lookup j cb)

section Point

variable (i : grid0.Coords) (r : FVec F S512x32 .f32) (c0 c1 c2 c3 : FVec F S8192x32 .f32)

/-- The codes and the residuals, codebook by codebook. -/
def code0 : IVec S512x1 32 := sample0 i r c0
def rest1 : FVec F S512x32 .f32 := rest r (code0 i r c0) c0
def code1 : IVec S512x1 32 := sample1 i (rest1 i r c0) c1
def rest2 : FVec F S512x32 .f32 := rest (rest1 i r c0) (code1 i r c0 c1) c1
def code2 : IVec S512x1 32 := sample2 i (rest2 i r c0 c1) c2
def rest3 : FVec F S512x32 .f32 := rest (rest2 i r c0 c1) (code2 i r c0 c1 c2) c2
def code3 : IVec S512x1 32 := sample3 i (rest3 i r c0 c1 c2) c3

/-- The sum of the four codes' vectors. -/
def total : FVec F S512x32 .f32 :=
  addf (addf (addf (addf (broadcast S512x32 (Scalar.ofBits .f32 0x00000000#32)) (lookup (code0 i r c0) c0))
    (lookup (code1 i r c0 c1) c1)) (lookup (code2 i r c0 c1 c2) c2)) (lookup (code3 i r c0 c1 c2 c3) c3)

/-- The four codes of each row, side by side. -/
def codes : IVec S512x4 32 :=
  concatenate S512x4 1 [⟨S512x1, code0 i r c0⟩, ⟨S512x1, code1 i r c0 c1⟩, ⟨S512x1, code2 i r c0 c1 c2⟩,
    ⟨S512x1, code3 i r c0 c1 c2 c3⟩] concatenates_S512x1_S512x1_S512x1_S512x1_S512x4_d1

end Point

end Cert.KernelIdeal.Tile

end
-- ==== Proof.Bridge.lean ====
/- What the body's run leaves in its two output buffers is the tile of `Model`. -/
module

public import proofs.«01_k».proof.Proof.Model

@[expose] public section

noncomputable section

namespace Cert.KernelIdeal.Tile

open Cert.KernelIdeal Cert.KernelIdeal.Gen Idealize.ShloMosaic

variable {F : FTy → Type} [FloatOps F] [Named F]

/-- The rotated rows as the body has them. -/
abbrev rowsOf (arg1 : Memref sig .tc .vmem S512x32 .f32) (h1 : arg1.IsWhole) (arg2 : Memref sig .tc .vmem S32x32 .f32)
    (h2 : arg2.IsWhole) (x0 : Vec F S512x32 .f32) (x1 : Vec F S32x32 .f32) : FVec F S512x32 .f32 :=
  rotate (View.readAt (Elt F) arg1.view (Rect.unit (s := S512x32) ![0, 0] S512x32.size inb_S512x32_S512x32_0_0).toLoadRect (h1.unread x0))
    (View.readAt (Elt F) arg2.view (Rect.unit (s := S32x32) ![0, 0] S32x32.size inb_S32x32_S32x32_0_0).toLoadRect (h2.unread x1))

/-- The four codebooks as the body loads them. -/
abbrev book0 (arg3 : Memref sig .tc .vmem S4x8192x32 .f32) (h3 : arg3.IsWhole) (x2 : Vec F S4x8192x32 .f32) : FVec F S8192x32 .f32 :=
  book (View.readAt (Elt F) arg3.view (Rect.unit (s := S4x8192x32) ![0, 0, 0] S1x8192x32.size inb_S4x8192x32_S1x8192x32_0_0_0).toLoadRect (h3.unread x2))
abbrev book1 (arg3 : Memref sig .tc .vmem S4x8192x32 .f32) (h3 : arg3.IsWhole) (x2 : Vec F S4x8192x32 .f32) : FVec F S8192x32 .f32 :=
  book (View.readAt (Elt F) arg3.view (Rect.unit (s := S4x8192x32) ![1, 0, 0] S1x8192x32.size inb_S4x8192x32_S1x8192x32_1_0_0).toLoadRect (h3.unread x2))
abbrev book2 (arg3 : Memref sig .tc .vmem S4x8192x32 .f32) (h3 : arg3.IsWhole) (x2 : Vec F S4x8192x32 .f32) : FVec F S8192x32 .f32 :=
  book (View.readAt (Elt F) arg3.view (Rect.unit (s := S4x8192x32) ![2, 0, 0] S1x8192x32.size inb_S4x8192x32_S1x8192x32_2_0_0).toLoadRect (h3.unread x2))
abbrev book3 (arg3 : Memref sig .tc .vmem S4x8192x32 .f32) (h3 : arg3.IsWhole) (x2 : Vec F S4x8192x32 .f32) : FVec F S8192x32 .f32 :=
  book (View.readAt (Elt F) arg3.view (Rect.unit (s := S4x8192x32) ![3, 0, 0] S1x8192x32.size inb_S4x8192x32_S1x8192x32_3_0_0).toLoadRect (h3.unread x2))

theorem pieces_total (c : Dev nD) (i : grid0.Coords) (arg1 : Memref sig .tc .vmem S512x32 .f32) (harg1 : arg1.IsWhole) (arg2 : Memref sig .tc .vmem S32x32 .f32) (harg2 : arg2.IsWhole) (arg3 : Memref sig .tc .vmem S4x8192x32 .f32) (harg3 : arg3.IsWhole) (arg4 : Memref sig .tc .vmem S512x32 .f32) (harg4 : arg4.IsWhole) (arg5 : Memref sig .tc .vmem S512x4 .i32) (harg5 : arg5.IsWhole) (arg6 : Memref sig .tc .vmem S8x128 .f32) (harg6 : arg6.IsWhole)
    (x0 : Vec F S512x32 .f32) (x1 : Vec F S32x32 .f32) (x2 : Vec F S4x8192x32 .f32) :
    (kernelRun0_A c i arg1 harg1 arg2 harg2 arg3 harg3 arg4 harg4 arg5 harg5 arg6 harg6 x0 x1 x2).1
      = [⟨Rect.unit (s := S512x32) ![0, 0] S512x32.size inb_S512x32_S512x32_0_0,
          total i (rowsOf arg1 harg1 arg2 harg2 x0 x1) (book0 arg3 harg3 x2) (book1 arg3 harg3 x2) (book2 arg3 harg3 x2)
            (book3 arg3 harg3 x2)⟩] := by
  sl_kernel_rfl

theorem pieces_codes (c : Dev nD) (i : grid0.Coords) (arg1 : Memref sig .tc .vmem S512x32 .f32) (harg1 : arg1.IsWhole) (arg2 : Memref sig .tc .vmem S32x32 .f32) (harg2 : arg2.IsWhole) (arg3 : Memref sig .tc .vmem S4x8192x32 .f32) (harg3 : arg3.IsWhole) (arg4 : Memref sig .tc .vmem S512x32 .f32) (harg4 : arg4.IsWhole) (arg5 : Memref sig .tc .vmem S512x4 .i32) (harg5 : arg5.IsWhole) (arg6 : Memref sig .tc .vmem S8x128 .f32) (harg6 : arg6.IsWhole)
    (x0 : Vec F S512x32 .f32) (x1 : Vec F S32x32 .f32) (x2 : Vec F S4x8192x32 .f32) :
    (kernelRun0_A c i arg1 harg1 arg2 harg2 arg3 harg3 arg4 harg4 arg5 harg5 arg6 harg6 x0 x1 x2).2.1
      = [⟨Rect.unit (s := S512x4) ![0, 0] S512x4.size inb_S512x4_S512x4_0_0,
          codes i (rowsOf arg1 harg1 arg2 harg2 x0 x1) (book0 arg3 harg3 x2) (book1 arg3 harg3 x2) (book2 arg3 harg3 x2)
            (book3 arg3 harg3 x2)⟩] := by
  sl_kernel_rfl

end Cert.KernelIdeal.Tile

end
-- ==== Proof.Spec.lean ====
/- The mathematics that both programs compute, element by element: Threefry-2x32 of one counter word, the Gumbel noise of one
   random word, and the score of one code for one row. Also the two readings of the noise: a float made from the random word's
   bits, less one, and the word's top 23 bits times 2⁻²³. -/
module

public import Idealize.ShloMosaic.Lib.Pointwise
public import Idealize.ShloMosaic.Lib.IdealHost

@[expose] public section

noncomputable section

namespace Cert.Spec

open Idealize.ShloMosaic

/-- One mixing round of Threefry, the second word rotated left by `a` (and `b = 32 - a`), handed on to `k`. -/
def round {α : Type} (a b : BitVec 32) (k : BitVec 32 → BitVec 32 → α) (x0 x1 : BitVec 32) : α :=
  k (x0 + x1) (((x1 <<< a) ||| (x1 >>> b)) ^^^ (x0 + x1))

/-- One key injection. -/
def inject {α : Type} (a b j : BitVec 32) (k : BitVec 32 → BitVec 32 → α) (x0 x1 : BitVec 32) : α :=
  k (x0 + a) (x1 + b + j)

/-- The four rounds of an even group. -/
def evenGroup {α : Type} (k : BitVec 32 → BitVec 32 → α) : BitVec 32 → BitVec 32 → α :=
  round 13#32 19#32 (round 15#32 17#32 (round 26#32 6#32 (round 6#32 26#32 k)))

/-- The four rounds of an odd group. -/
def oddGroup {α : Type} (k : BitVec 32 → BitVec 32 → α) : BitVec 32 → BitVec 32 → α :=
  round 17#32 15#32 (round 29#32 3#32 (round 16#32 16#32 (round 24#32 8#32 k)))

/-- Threefry-2x32 of the words (0, p) under the key (a, b), with c the key schedule's third word; its two words xored. -/
def threefry (a b c p : BitVec 32) : BitVec 32 :=
  evenGroup (inject b c 1#32 (oddGroup (inject c a 2#32 (evenGroup (inject a b 3#32 (oddGroup (inject b c 4#32
    (evenGroup (inject c a 5#32 fun x0 x1 => x0 ^^^ x1))))))))) a (p + b)

/-- The Gumbel noise of a random word: its top 23 bits are a fraction, and 0 is taken for the least positive f32. -/
def gumbel (w : BitVec 32) : EReal :=
  -Ideal.log (-Ideal.log (max ((((w >>> 9#32).toNat : ℝ) * (2 : ℝ) ^ (-23 : ℤ) : ℝ) : EReal)
    (Ideal.ofBits .f32 0x00800000#32)))

/-- The reciprocal of the temperature, 0.999 as an f32. -/
def invTemp : EReal := (((16760439 / 16777216)⁻¹ : ℝ) : EReal)

/-- The score of code `k` for row `n`: the noise, plus the logit. -/
def score (a b c : BitVec 32) (n : ℕ) (r : Fin 32 → EReal) (cb : Fin 8192 → Fin 32 → EReal) (k : Fin 8192) : EReal :=
  gumbel (threefry a b c (BitVec.ofNat 32 (n * 8192 + k.val)))
    + -((∑ d, r d * r d + ∑ d, cb k d * cb k d) - Ideal.ofBits .f32 0x40000000#32 * ∑ d, r d * cb k d) * invTemp

/-! ### The floats made of bits -/

theorem ofBits_neg_inf : Ideal.ofBits .f32 0xFF800000#32 = ⊥ := by
  simp [Ideal.ofBits, Ideal.ieee]

theorem ofBits_neg_one : Ideal.ofBits .f32 0xBF800000#32 = ((-1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_ulp : Ideal.ofBits .f32 0x34000000#32 = (((2 : ℝ) ^ (-23 : ℤ) : ℝ) : EReal) := by
  simp [Ideal.ofBits, Ideal.ieee, -EReal.coe_mul]; norm_num

theorem ofBits_temp : Ideal.ofBits .f32 0x3F7FBE77#32 = ((16760439 / 16777216 : ℝ) : EReal) := by
  simp [Ideal.ofBits, Ideal.ieee, -EReal.coe_mul]; norm_num

theorem toNat_shift_lt (w : BitVec 32) : (w >>> 9#32).toNat < 2 ^ 23 := by
  have := w.isLt
  rw [BitVec.ushiftRight_eq', BitVec.toNat_ushiftRight, Nat.shiftRight_eq_div_pow,
    show (9#32).toNat = 9 from rfl]
  omega

/-- Twenty-three bits behind the exponent of 1.0 are 1 and that fraction. -/
theorem ofBits_fraction (n : BitVec 32) (hn : n.toNat < 2 ^ 23) :
    Ideal.ofBits .f32 (n ||| 1065353216#32) = ((1 + (n.toNat : ℝ) * (2 : ℝ) ^ (-23 : ℤ) : ℝ) : EReal) := by
  have hor : (n ||| 1065353216#32) = BitVec.ofNat 32 (1065353216 + n.toNat) := by
    apply BitVec.eq_of_toNat_eq
    rw [BitVec.toNat_or, BitVec.toNat_ofNat, BitVec.toNat_ofNat, Nat.mod_eq_of_lt (by norm_num : (1065353216 : ℕ) < 2 ^ 32),
      Nat.or_comm, Nat.mod_eq_of_lt (by omega : 1065353216 + n.toNat < 2 ^ 32)]
    have h := Nat.two_pow_add_eq_or_of_lt hn 127
    norm_num at h
    exact h.symm
  have e1 : ((BitVec.ofNat 32 (1065353216 + n.toNat)).extractLsb' 31 1 == 1#1) = false := by
    rw [beq_eq_false_iff_ne]
    intro h
    have := congrArg BitVec.toNat h
    simp only [BitVec.extractLsb'_toNat, BitVec.toNat_ofNat, Nat.shiftRight_eq_div_pow] at this
    omega
  have e2 : ((BitVec.ofNat 32 (1065353216 + n.toNat)).extractLsb' 23 8).toNat = 127 := by
    simp only [BitVec.extractLsb'_toNat, BitVec.toNat_ofNat, Nat.shiftRight_eq_div_pow]
    omega
  have e3 : ((BitVec.ofNat 32 (1065353216 + n.toNat)).extractLsb' 0 23).toNat = n.toNat := by
    simp only [BitVec.extractLsb'_toNat, BitVec.toNat_ofNat, Nat.shiftRight_eq_div_pow]
    omega
  rw [hor]
  show Ideal.ieee 8 23 _ = _
  unfold Ideal.ieee
  simp only [Nat.reduceAdd, e1, e2, e3]
  norm_num [-EReal.coe_mul, -EReal.coe_add]
  ring

/-- The kernel's fraction: the bits as a float, less one. -/
theorem fraction_of_bits (w : BitVec 32) :
    Ideal.ofBits .f32 ((w >>> 9#32) ||| 1065353216#32) + Ideal.ofBits .f32 0xBF800000#32
      = ((((w >>> 9#32).toNat : ℝ) * (2 : ℝ) ^ (-23 : ℤ) : ℝ) : EReal) := by
  rw [ofBits_fraction _ (toNat_shift_lt w), ofBits_neg_one, ← EReal.coe_add]
  congr 1
  ring

/-- The reference's fraction: the word as a number, times 2⁻²³. -/
theorem fraction_of_word (w : BitVec 32) :
    (((w >>> 9#32).toInt : ℝ) : EReal) * Ideal.ofBits .f32 0x34000000#32
      = ((((w >>> 9#32).toNat : ℝ) * (2 : ℝ) ^ (-23 : ℤ) : ℝ) : EReal) := by
  have h := toNat_shift_lt w
  have e : (w >>> 9#32).toInt = ((w >>> 9#32).toNat : ℤ) := by
    rw [BitVec.toInt_eq_toNat_cond, if_pos (by omega)]
  rw [e, ofBits_ulp, ← EReal.coe_mul, Int.cast_natCast]

/-- A finite factor that is not negative comes out of a sum. -/
theorem mul_sum_of_nonneg {ι : Type} (s : Finset ι) (f : ι → EReal) (x : ℝ) (hx : 0 ≤ x) :
    (x : EReal) * ∑ i ∈ s, f i = ∑ i ∈ s, (x : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hx) (EReal.coe_ne_top x)]

end Cert.Spec

end
-- ==== Proof.FirstMax.lean ====
/- The first index at which a row of extended reals is greatest: what it is, that there is one of them, that a scan of
   the row block by block with a strict comparison finds it, and that a fold of (value, index) pairs which prefers the
   greater value, then the smaller index, finds it too. -/
module

public import Idealize.ShloMosaic.PureOps
public import Idealize.ShloMosaic.PureOps.Reduce
public import Idealize.ShloMosaic.PureOps.Ideal.Laws

@[expose] public section

namespace Cert.FirstMax

open Idealize.ShloMosaic

variable {n : ℕ}

/-- `I` is the first index at which `f` is greatest. -/
structure First (f : Fin n → EReal) (I : ℕ) : Prop where
  /-- It is an index at which no value of the row is exceeded. -/
  at_max : ∃ i : Fin n, i.val = I ∧ ∀ m, f m ≤ f i
  /-- Every value before it is smaller. -/
  before : ∀ i m : Fin n, i.val = I → m.val < I → f m < f i

theorem First.unique {f : Fin n → EReal} {I J : ℕ} (h : First f I) (h' : First f J) : I = J := by
  obtain ⟨i, hi, mi⟩ := h.at_max
  obtain ⟨j, hj, mj⟩ := h'.at_max
  rcases lt_trichotomy I J with hlt | heq | hgt
  · exact absurd (mi j) (not_le.mpr (h'.before j i hj (hi ▸ hlt)))
  · exact heq
  · exact absurd (mj i) (not_le.mpr (h.before i j hi (hj ▸ hgt)))

/-- What a scan of the first `P` values has found: a greatest value `M` and the first index `I` that has it, or nothing
    above `⊥` and the index 0. -/
structure Upto (f : Fin n → EReal) (P : ℕ) (M : EReal) (I : ℕ) : Prop where
  le : ∀ m : Fin n, m.val < P → f m ≤ M
  lt : ∀ m : Fin n, m.val < I → m.val < P → f m < M
  found : (∃ i : Fin n, i.val = I ∧ f i = M ∧ I < P) ∨ (M = ⊥ ∧ I = 0)

/-- `C` is the greatest value of the block of `L` values from `P` on, and `J` the first index of the block that has it. -/
structure Block (f : Fin n → EReal) (P L : ℕ) (C : EReal) (J : ℕ) : Prop where
  le : ∀ m : Fin n, P ≤ m.val → m.val < P + L → f m ≤ C
  lt : ∀ m : Fin n, P ≤ m.val → m.val < J → f m < C
  found : ∃ i : Fin n, i.val = J ∧ f i = C ∧ P ≤ J ∧ J < P + L

/-- Before the scan: nothing above `⊥`. -/
theorem Upto.start (f : Fin n → EReal) : Upto f 0 ⊥ 0 :=
  ⟨fun _ h => absurd h (Nat.not_lt_zero _), fun _ h => absurd h (Nat.not_lt_zero _), .inr ⟨rfl, rfl⟩⟩

/-- One block more: its maximum replaces the running one where it is strictly greater. -/
theorem Upto.step {f : Fin n → EReal} {P L : ℕ} {M C : EReal} {I J : ℕ} (h : Upto f P M I) (b : Block f P L C J) :
    Upto f (P + L) (if M < C then C else M) (if M < C then J else I) := by
  obtain ⟨j, hj, fj, hPJ, hJL⟩ := b.found
  split_ifs with hc
  · refine ⟨fun m hm => ?_, fun m hJ hm => ?_, .inl ⟨j, hj, fj, hJL⟩⟩
    · rcases Nat.lt_or_ge m.val P with hP | hP
      · exact (h.le m hP).trans hc.le
      · exact b.le m hP hm
    · rcases Nat.lt_or_ge m.val P with hP | hP
      · exact (h.le m hP).trans_lt hc
      · exact b.lt m hP hJ
  · refine ⟨fun m hm => ?_, fun m hI hm => ?_, ?_⟩
    · rcases Nat.lt_or_ge m.val P with hP | hP
      · exact h.le m hP
      · exact (b.le m hP hm).trans (not_lt.mp hc)
    · rcases h.found with ⟨i, hi, _, hIP⟩ | ⟨_, hI0⟩
      · exact h.lt m hI (hI.trans hIP)
      · omega
    · rcases h.found with ⟨i, hi, fi, hIP⟩ | hb
      · exact .inl ⟨i, hi, fi, by omega⟩
      · exact .inr hb

/-- After the whole row the index found is the first of the maximum. -/
theorem Upto.first {f : Fin n → EReal} {M : EReal} {I : ℕ} (hn : 0 < n) (h : Upto f n M I) : First f I := by
  rcases h.found with ⟨i, hi, fi, _⟩ | ⟨hM, hI⟩
  · exact ⟨⟨i, hi, fun m => fi ▸ h.le m m.isLt⟩, fun i' m hi' hm => by
      have e : i' = i := Fin.ext (hi'.trans hi.symm)
      rw [e, fi]; exact h.lt m hm m.isLt⟩
  · have hb : ∀ m, f m = ⊥ := fun m => le_bot_iff.mp (hM ▸ h.le m m.isLt)
    exact ⟨⟨⟨0, hn⟩, hI.symm, fun m => by rw [hb, hb]⟩, fun _ m _ hm => by omega⟩

/-! ## The maximum and the smallest position of a block -/

theorem le_fold_max {L : ℕ} (g : Fin L → EReal) (k : Fin L) : g k ≤ Finset.univ.fold max ⊥ g :=
  (Finset.le_fold_max (g k)).mpr (.inr ⟨k, Finset.mem_univ k, le_rfl⟩)

theorem exists_fold_max {L : ℕ} (hL : 0 < L) (g : Fin L → EReal) : ∃ k, g k = Finset.univ.fold max ⊥ g := by
  rcases (Finset.le_fold_max (Finset.univ.fold max ⊥ g)).mp le_rfl with h | ⟨k, _, h⟩
  · exact ⟨⟨0, hL⟩, le_antisymm (le_fold_max g _) (h.trans bot_le)⟩
  · exact ⟨k, le_antisymm (le_fold_max g k) h⟩

theorem toNat_minsi {x y : BitVec 32} (hx : x.toNat < 2 ^ 31) (hy : y.toNat < 2 ^ 31) :
    (IntOp.minsi x y).toNat = min x.toNat y.toNat := by
  have ex := BitVec.toInt_eq_toNat_cond x
  have ey := BitVec.toInt_eq_toNat_cond y
  simp only [IntOp.minsi, BitVec.slt, decide_eq_true_eq]
  split_ifs <;> omega

/-- The signed minimum of words that are small naturals: below each of them, and the start or one of them. -/
theorem fold_minsi_spec {ι : Type} (a : BitVec 32) (g : ι → BitVec 32) (ha : a.toNat < 2 ^ 31)
    (hg : ∀ k, (g k).toNat < 2 ^ 31) (s : Finset ι) :
    (s.fold IntOp.minsi a g).toNat < 2 ^ 31 ∧ (∀ k ∈ s, (s.fold IntOp.minsi a g).toNat ≤ (g k).toNat)
      ∧ ((s.fold IntOp.minsi a g).toNat = a.toNat ∨ ∃ k ∈ s, (s.fold IntOp.minsi a g).toNat = (g k).toNat) := by
  classical
  induction s using Finset.induction_on with
  | empty => exact ⟨ha, fun k hk => absurd hk (Finset.notMem_empty k), .inl rfl⟩
  | insert k s hk ih =>
    rw [Finset.fold_insert hk]
    have e := toNat_minsi (hg k) ih.1
    obtain ⟨h1, h2, h3⟩ := ih
    rw [e]
    refine ⟨(min_le_left _ _).trans_lt (hg k), fun x hx => ?_, ?_⟩
    · rcases Finset.mem_insert.mp hx with rfl | hx
      · exact min_le_left _ _
      · exact (min_le_right _ _).trans (h2 x hx)
    · rcases Nat.le_total (g k).toNat (s.fold IntOp.minsi a g).toNat with hle | hle
      · exact .inr ⟨k, Finset.mem_insert_self k s, min_eq_left hle⟩
      · rw [min_eq_right hle]
        rcases h3 with h3 | ⟨x, hx, h3⟩
        · exact .inl h3
        · exact .inr ⟨x, Finset.mem_insert_of_mem hx, h3⟩

/-- A block's maximum, and the smallest position among those that reach it, every other position counted as `n`. -/
theorem block_of_folds {P L : ℕ} (hL : 0 < L) (hPL : P + L ≤ n) (hn : n < 2 ^ 31) (f : Fin n → EReal)
    (g : Fin L → EReal) (hg : ∀ k : Fin L, g k = f ⟨P + k.val, by omega⟩) (w : Fin L → BitVec 32)
    (hw : ∀ k, w k = if g k = Finset.univ.fold max ⊥ g then BitVec.ofNat 32 (P + k.val) else BitVec.ofNat 32 n) :
    Block f P L (Finset.univ.fold max ⊥ g) (Finset.univ.fold IntOp.minsi 2147483647#32 w).toNat := by
  have hnat : ∀ x, x ≤ n → (BitVec.ofNat 32 x).toNat = x := fun x hx => by
    rw [BitVec.toNat_ofNat]; exact Nat.mod_eq_of_lt (by omega)
  have hlt : ∀ k, (w k).toNat < 2 ^ 31 := fun k => by
    rw [hw]; split_ifs
    · rw [hnat _ (by omega)]; omega
    · rw [hnat _ le_rfl]; exact hn
  obtain ⟨-, hle, hmem⟩ := fold_minsi_spec 2147483647#32 w (by decide) hlt Finset.univ
  obtain ⟨k₀, hk₀⟩ := exists_fold_max hL g
  have hJ0 : (Finset.univ.fold IntOp.minsi 2147483647#32 w).toNat ≤ P + k₀.val := by
    have := hle k₀ (Finset.mem_univ _)
    rwa [hw, if_pos hk₀, hnat _ (by omega)] at this
  have e31 : (2147483647#32).toNat = 2147483647 := by decide
  obtain ⟨k₁, -, hk₁⟩ := hmem.resolve_left (by omega)
  have hg₁ : g k₁ = Finset.univ.fold max ⊥ g := by
    by_contra hne
    rw [hw, if_neg hne, hnat _ le_rfl] at hk₁
    omega
  rw [hw, if_pos hg₁, hnat _ (by omega)] at hk₁
  refine ⟨fun m hP hm => ?_, fun m hP hm => ?_, ⟨⟨P + k₁.val, by omega⟩, hk₁.symm, ?_, by omega, by omega⟩⟩
  · have := le_fold_max g ⟨m.val - P, by omega⟩
    rw [hg] at this
    have e : (⟨P + (m.val - P), by omega⟩ : Fin n) = m := Fin.ext (by simp only; omega)
    rwa [e] at this
  · have hm' : m.val < P + L := by omega
    have hle' := le_fold_max g ⟨m.val - P, by omega⟩
    have hne : g ⟨m.val - P, by omega⟩ ≠ Finset.univ.fold max ⊥ g := fun heq => by
      have := hle ⟨m.val - P, by omega⟩ (Finset.mem_univ _)
      rw [hw, if_pos heq, hnat _ (by simp only; omega)] at this
      simp only at this; omega
    have := lt_of_le_of_ne hle' hne
    rw [hg] at this
    have e : (⟨P + (m.val - P), by omega⟩ : Fin n) = m := Fin.ext (by simp only; omega)
    rwa [e] at this
  · rw [← hg, hg₁]

/-! ## A fold of (value, index) pairs -/

/-- `b` is no better than `a`: a smaller value, or the same value at an index that is not smaller. -/
def NoBetter (b a : EReal × BitVec 32) : Prop := b.1 < a.1 ∨ (b.1 = a.1 ∧ a.2.toNat ≤ b.2.toNat)

theorem NoBetter.trans {a b c : EReal × BitVec 32} (h : NoBetter c b) (h' : NoBetter b a) : NoBetter c a := by
  rcases h with h | ⟨h, e⟩ <;> rcases h' with h' | ⟨h', e'⟩
  · exact .inl (h.trans h')
  · exact .inl (h' ▸ h)
  · exact .inl (h ▸ h')
  · exact .inr ⟨h.trans h', e'.trans e⟩

/-- A body that returns one of its two pairs, neither of them better than it, folds a list to one of its pairs or the
    start, none of them better than it. -/
theorem foldl_spec (r : EReal × BitVec 32 → EReal × BitVec 32 → EReal × BitVec 32) (ok : EReal × BitVec 32 → Prop)
    (hr : ∀ a b, ok a → ok b → (r a b = a ∨ r a b = b) ∧ NoBetter a (r a b) ∧ NoBetter b (r a b))
    (l : List (EReal × BitVec 32)) (hl : ∀ p ∈ l, ok p) (a : EReal × BitVec 32) (ha : ok a) :
    (l.foldl r a = a ∨ l.foldl r a ∈ l) ∧ NoBetter a (l.foldl r a) ∧ ∀ p ∈ l, NoBetter p (l.foldl r a) := by
  induction l generalizing a with
  | nil => exact ⟨.inl rfl, .inr ⟨rfl, le_rfl⟩, fun p hp => absurd hp List.not_mem_nil⟩
  | cons q l ih =>
    obtain ⟨hone, hna, hnq⟩ := hr a q ha (hl q List.mem_cons_self)
    have hok : ok (r a q) := by
      rcases hone with e | e <;> rw [e]
      · exact ha
      · exact hl q List.mem_cons_self
    obtain ⟨h1, h2, h3⟩ := ih (fun p hp => hl p (List.mem_cons_of_mem q hp)) (r a q) hok
    rw [List.foldl_cons]
    refine ⟨?_, hna.trans h2, fun p hp => ?_⟩
    · rcases h1 with h1 | h1
      · rcases hone with e | e
        · exact .inl (h1.trans e)
        · exact .inr (by rw [h1, e]; exact List.mem_cons_self)
      · exact .inr (List.mem_cons_of_mem q h1)
    · rcases List.mem_cons.mp hp with rfl | hp
      · exact hnq.trans h2
      · exact h3 p hp

/-- The pair so found over a row, from `(⊥, 0)`: its index is the first of the maximum. -/
theorem first_of_pair (hn : 0 < n) (hn' : n < 2 ^ 31) (f : Fin n → EReal) (R : EReal × BitVec 32)
    (hR : R = (⊥, 0#32) ∨ ∃ k : Fin n, R = (f k, BitVec.ofNat 32 k.val))
    (hbest : ∀ k : Fin n, NoBetter (f k, BitVec.ofNat 32 k.val) R) : First f R.2.toNat := by
  have hnat : ∀ k : Fin n, (BitVec.ofNat 32 k.val).toNat = k.val := fun k => by
    rw [BitVec.toNat_ofNat]; exact Nat.mod_eq_of_lt (by omega)
  have hle : ∀ k, f k ≤ R.1 := fun k => by
    rcases hbest k with h | ⟨h, -⟩
    · exact le_of_lt h
    · exact le_of_eq h
  have hbef : ∀ k : Fin n, k.val < R.2.toNat → f k < R.1 := fun k hk => by
    rcases hbest k with h | ⟨-, h⟩
    · exact h
    · rw [hnat] at h; omega
  rcases hR with e | ⟨k, e⟩
  · have h0 : ∀ k, f k = ⊥ := fun k => by have := hle k; rw [e] at this; exact le_bot_iff.mp this
    exact ⟨⟨⟨0, hn⟩, by rw [e]; rfl, fun m => by rw [h0, h0]⟩, fun _ m _ hm => by rw [e] at hm; exact absurd hm (Nat.not_lt_zero _)⟩
  · have e2 : R.2.toNat = k.val := by rw [e]; exact hnat k
    have e1 : R.1 = f k := by rw [e]
    refine ⟨⟨k, e2.symm, fun m => e1 ▸ hle m⟩, fun i m hi hm => ?_⟩
    have : i = k := Fin.ext (hi.trans e2)
    rw [this, ← e1]; exact hbef m hm

end Cert.FirstMax
-- ==== Proof.TileValue.lean ====
/- What a tile's stages are at an index, over the extended reals: the words are scalar Threefry, the scores are `Spec.score`,
   the scan finds the first maximum, and the one-hot product is the code's own row. -/
module

public import proofs.«01_k».proof.Proof.Model
public import proofs.«01_k».proof.Proof.Spec
public import proofs.«01_k».proof.Proof.FirstMax
public import Idealize.ShloMosaic.Lib.Pointwise

@[expose] public section

set_option maxRecDepth 16384

noncomputable section

namespace Cert.KernelIdeal.Tile

open Cert.KernelIdeal Cert.KernelIdeal.Gen Idealize.ShloMosaic

/-! ### The random words -/

/-- `k` on arrays is `k'` at the index `j`. -/
def At (j : S512x1024.Idx) (k : Words → Words → Words) (k' : BitVec 32 → BitVec 32 → BitVec 32) : Prop :=
  ∀ x0 x1, k x0 x1 j = k' (x0 j) (x1 j)

variable {j : S512x1024.Idx} {k : Words → Words → Words} {k' : BitVec 32 → BitVec 32 → BitVec 32}

theorem At.round {a b : BitVec 32} (ha : a.toNat < 32) (hb : b.toNat < 32) (h : At j k k') :
    At j (Tile.round a b k) (Spec.round a b k') := fun x0 x1 => by
  have e1 : shli x1 (word a) j = x1 j <<< a := if_pos ha
  have e2 : shrui x1 (word b) j = x1 j >>> b := if_pos hb
  unfold Tile.round Spec.round
  rw [h, ← e1, ← e2]
  rfl

theorem At.inject {a b c : BitVec 32} (h : At j k k') : At j (Tile.inject a b c k) (Spec.inject a b c k') := fun x0 x1 => by
  unfold Tile.inject Spec.inject
  rw [h]
  rfl

theorem At.evenGroup (h : At j k k') : At j (Tile.evenGroup k) (Spec.evenGroup k') :=
  (((h.round (by decide) (by decide)).round (by decide) (by decide)).round (by decide) (by decide)).round
    (by decide) (by decide)

theorem At.oddGroup (h : At j k k') : At j (Tile.oddGroup k) (Spec.oddGroup k') :=
  (((h.round (by decide) (by decide)).round (by decide) (by decide)).round (by decide) (by decide)).round
    (by decide) (by decide)

theorem At.xor : At j (fun x0 x1 => xori x0 x1) (fun x0 x1 => x0 ^^^ x1) := fun _ _ => rfl

theorem threefry_at (a b c : BitVec 32) (p : Words) (j : S512x1024.Idx) :
    threefry a b c p j = Spec.threefry a b c (p j) := by
  have h := At.xor.inject (a := c) (b := a) (c := 5#32) (j := j)
  have h := (h.evenGroup.inject (a := b) (b := c) (c := 4#32)).oddGroup
  have h := (h.inject (a := a) (b := b) (c := 3#32)).evenGroup
  have h := (h.inject (a := c) (b := a) (c := 2#32)).oddGroup
  have h := (h.inject (a := b) (b := c) (c := 1#32)).evenGroup
  unfold threefry Spec.threefry
  rw [h]
  show Spec.evenGroup _ (0#32 + a) (p j + b) = _
  rw [BitVec.zero_add]

/-! ### The scores -/

theorem gumbel_at (w : Words) (j : S512x1024.Idx) : gumbel (F := Ideal) w j = Spec.gumbel (w j) := by
  obtain ⟨p, k, rfl⟩ : ∃ p k, j = ix2 p k := ⟨j 0, j 1, ValueIdx.eq_ix2 j⟩
  have e : (w (ix2 p k) >>> 9#32) = IntOp.shrui ArithUnit.vector (w (ix2 p k)) 9#32 := (if_pos (by decide)).symm
  unfold Spec.gumbel
  rw [← Spec.fraction_of_bits, e]
  pointwise [gumbel]
  simp only [zero_sub]
  rfl

theorem counter_at (i : grid0.Coords) (q : Fin 8) (p : Fin 512) (k : Fin 1024) :
    addi (counter i) (word (base q)) (ix2 p k)
      = BitVec.ofNat 32 (((i 0).val * 512 + p.val) * 8192 + (1024 * q.val + k.val)) := by
  pointwise [counter, col]
  simp only [IntOp.addi, IntOp.muli, Scalar.muli, BitVec.ofNat_add, BitVec.ofNat_mul]
  have key : ∀ P I K Q a b c : BitVec 32, (P + I * a) * b + K + c * Q = (I * a + P) * b + (c * Q + K) := by
    intro P I K Q a b c
    rw [BitVec.add_comm P, BitVec.add_assoc, BitVec.add_comm K]
  exact key _ _ _ _ _ _ _

theorem scores_at (a b c : BitVec 32) (i : grid0.Coords) (r : FVec Ideal S512x32 .f32) (cb : FVec Ideal S8192x32 .f32)
    (q : Fin 8) (p : Fin 512) (k : Fin 1024) :
    scores a b c i r cb q (ix2 p k)
      = Spec.score a b c ((i 0).val * 512 + p.val) (fun d => r (ix2 p d)) (fun k d => cb (ix2 k d))
          ⟨1024 * q.val + k.val, by omega⟩ := by
  unfold Spec.score
  rw [← counter_at i q p k, ← threefry_at, ← gumbel_at]
  show gumbel _ _ + logits q r cb (ix2 p k) = _
  congr 1
  have e : Named.named (F := Ideal) κ "inv_temp" (φ := .f32) 0x3F8020CD#32 = Spec.invTemp :=
    IdealRules.named_const.ideal_named_scalar _ _ _ _ rfl
  pointwise [logits, codeNorms, rowNorms]
  rw [← e]
  simp only [zero_sub]

/-! ### The scan -/

theorem chunkMax_at (v : FVec Ideal S512x1024 .f32) (p : Fin 512) :
    chunkMax v (ix2 p 0) = Finset.univ.fold max ⊥ fun k => v (ix2 p k) := by
  pointwise [chunkMax]
  rw [Spec.ofBits_neg_inf]

theorem chunkIdx_at (q : Fin 8) (v : FVec Ideal S512x1024 .f32) (p : Fin 512) :
    chunkIdx q v (ix2 p 0) = Finset.univ.fold IntOp.minsi 2147483647#32 fun k =>
      if v (ix2 p k) = Finset.univ.fold max ⊥ (fun k => v (ix2 p k)) then BitVec.ofNat 32 (1024 * q.val + k.val)
      else BitVec.ofNat 32 8192 := by
  have e : ∀ k : Fin 1024, BitVec.ofNat 32 (1024 * q.val + k.val) = IntOp.addi (BitVec.ofNat 32 k.val) (base q) := fun k => by
    rw [Nat.add_comm, BitVec.ofNat_add]; rfl
  simp only [e]
  pointwise [chunkIdx, chunkMax, col]
  simp only [Spec.ofBits_neg_inf]

theorem keepMax_at (m r : FVec Ideal S512x1 .f32) (p : Fin 512) :
    keepMax m r (ix2 p 0) = if r (ix2 p 0) < m (ix2 p 0) then m (ix2 p 0) else r (ix2 p 0) := by
  pointwise [keepMax]

theorem keepIdx_at (m r : FVec Ideal S512x1 .f32) (i j : IVec S512x1 32) (p : Fin 512) :
    keepIdx m r i j (ix2 p 0) = if r (ix2 p 0) < m (ix2 p 0) then i (ix2 p 0) else j (ix2 p 0) := by
  pointwise [keepIdx]

/-- After `n` chunks the scan has the first maximum of the first 1024·n codes. -/
theorem upto_at (f : Fin 8192 → EReal) (v : Fin 8 → FVec Ideal S512x1024 .f32) (p : Fin 512)
    (hv : ∀ q k, v q (ix2 p k) = f ⟨1024 * q.val + k.val, by omega⟩) :
    ∀ n, n ≤ 8 → FirstMax.Upto f (1024 * n) (maxAfter v n (ix2 p 0)) (idxAfter v n (ix2 p 0)).toNat
  | 0, _ => by
    have e : maxAfter v 0 (ix2 p 0) = ⊥ := Spec.ofBits_neg_inf
    rw [e]
    exact FirstMax.Upto.start f
  | n + 1, hn => by
    have ih := upto_at f v p hv n (by omega)
    have hq : (Fin.ofNat 8 n).val = n := Nat.mod_eq_of_lt (by omega)
    have hb := FirstMax.block_of_folds (P := 1024 * n) (L := 1024) (by decide) (by omega) (by decide) f
      (fun k => v (Fin.ofNat 8 n) (ix2 p k))
      (fun k => by rw [hv]; congr 1; exact Fin.ext (by simp only [hq])) _ (fun k => rfl)
    have hs := ih.step hb
    have e1 : maxAfter v (n + 1) (ix2 p 0) = keepMax (chunkMax (v (Fin.ofNat 8 n))) (maxAfter v n) (ix2 p 0) := rfl
    have e2 : idxAfter v (n + 1) (ix2 p 0) = keepIdx (chunkMax (v (Fin.ofNat 8 n))) (maxAfter v n)
      (chunkIdx (Fin.ofNat 8 n) (v (Fin.ofNat 8 n))) (idxAfter v n) (ix2 p 0) := rfl
    rw [e1, e2, keepMax_at, keepIdx_at, chunkMax_at, chunkIdx_at, hq, Nat.mul_succ]
    convert hs using 1
    split_ifs <;> rfl

/-- The code sampled is the first of greatest score. -/
theorem sample_first (a b c : BitVec 32) (i : grid0.Coords) (r : FVec Ideal S512x32 .f32) (cb : FVec Ideal S8192x32 .f32)
    (p : Fin 512) :
    FirstMax.First (Spec.score a b c ((i 0).val * 512 + p.val) (fun d => r (ix2 p d)) (fun k d => cb (ix2 k d)))
      (sample a b c i r cb (ix2 p 0)).toNat :=
  (upto_at _ _ p (scores_at a b c i r cb · p ·) 8 le_rfl).first (by decide)

/-! ### The code's row -/

/-- The one-hot product is the code's row. -/
theorem lookup_at (j : IVec S512x1 32) (cb : FVec Ideal S8192x32 .f32) (p : Fin 512) (d : Fin 32) (k : Fin 8192)
    (hk : j (ix2 p 0) = BitVec.ofNat 32 k.val) : lookup j cb (ix2 p d) = cb (ix2 k d) := by
  pointwise [lookup]
  rw [hk, Finset.sum_eq_single k]
  · have e : FloatOps.sitofp (F := Ideal) .f32 (BitVec.setWidth 32 (IntOp.cmpi .eq (BitVec.ofNat 32 k.val) (BitVec.ofNat 32 k.val)))
        = (1 : EReal) := by
      have e : IntOp.cmpi .eq (BitVec.ofNat 32 k.val) (BitVec.ofNat 32 k.val) = 1#1 := by simp [IntOp.cmpi]
      rw [e]
      show (((1 : ℤ) : ℝ) : EReal) = 1
      norm_num
    rw [e, one_mul]
  · intro x _ hx
    have e : FloatOps.sitofp (F := Ideal) .f32 (BitVec.setWidth 32 (IntOp.cmpi .eq (BitVec.ofNat 32 x.val) (BitVec.ofNat 32 k.val)))
        = (0 : EReal) := by
      have e : IntOp.cmpi .eq (BitVec.ofNat 32 x.val) (BitVec.ofNat 32 k.val) = 0#1 := by
        have hne : BitVec.ofNat 32 x.val ≠ BitVec.ofNat 32 k.val := fun h => hx (Fin.ext (by
          have := congrArg BitVec.toNat h
          simp only [BitVec.toNat_ofNat] at this
          omega))
        simp only [IntOp.cmpi, beq_eq_false_iff_ne.mpr hne]; rfl
      rw [e]
      show (((0 : ℤ) : ℝ) : EReal) = 0
      norm_num
    rw [e, zero_mul]
  · exact fun h => absurd (Finset.mem_univ k) h

theorem rotate_at (x : FVec Ideal S512x32 .f32) (rot : FVec Ideal S32x32 .f32) (p : Fin 512) (d : Fin 32) :
    rotate x rot (ix2 p d) = ∑ e, x (ix2 p e) * rot (ix2 e d) := by
  pointwise [rotate]

theorem book_at (b : FVec Ideal S1x8192x32 .f32) (k : Fin 8192) (d : Fin 32) : book b (ix2 k d) = b (ix3 0 k d) := by
  pointwise [book]

end Cert.KernelIdeal.Tile

end
-- ==== Proof.RefModel.lean ====
/- The reference in stages: the Threefry words of all codebooks, rows and codes, their Gumbel noise, one codebook's scores,
   the arg-max and the rows taken, each over whole arrays; that its named values are these; and what they are at an index. -/
module

public import proofs.«01_k».proof.Proof.Ref.Bits
public import proofs.«01_k».proof.Proof.Spec
public import proofs.«01_k».proof.Proof.FirstMax
public import Idealize.ShloMosaic.Lib.Pointwise
public import Idealize.ShloMosaic.Lib.Routing.Ops
public import Idealize.ShloMosaic.Lib.Tactic
public import Idealize.ShloMosaic.Lib.Tactic.CleanTypes

@[expose] public section

set_option maxRecDepth 16384

noncomputable section

namespace Cert.ReferenceIdeal.Whole

open Cert.ReferenceIdeal Cert.ReferenceIdeal.Gen Cert.ReferenceIdeal.Value Idealize.ShloMosaic Idealize.ShloMosaic.TcCoe

section Model

variable {F : FTy → Type} [FloatOps F]

/-- The words of all codebooks, rows and codes. -/
abbrev Words := IVec S4x16384x8192 32

/-- One word of each codebook. -/
abbrev Keys := IVec S4x1x1 32

/-- One word at every place. -/
abbrev word (w : BitVec 32) : Words := broadcastInDim S4x16384x8192 ![] bcast_S_S4x16384x8192 (constantI S_ 32 w)

/-- One word for every codebook. -/
abbrev keyWord (w : BitVec 32) : Keys := broadcastInDim S4x1x1 ![] bcast_S_S4x1x1 (constantI S_ 32 w)

/-- A codebook's word at each of its places. -/
abbrev spread (k : Keys) : Words := broadcastInDim S4x16384x8192 ![0, 1, 2] bcast_S4x1x1_S4x16384x8192_0_1_2 k

def round {α : Type} (a b : BitVec 32) (k : Words → Words → α) (x0 x1 : Words) : α :=
  k (addi x0 x1) (xori (ori (Host.shli x1 (word a)) (Host.shrui x1 (word b))) (addi x0 x1))

def inject {α : Type} (a b : Keys) (j : BitVec 32) (k : Words → Words → α) (x0 x1 : Words) : α :=
  k (addi x0 (spread a)) (addi x1 (spread (addi b (keyWord j))))

def evenGroup {α : Type} (k : Words → Words → α) : Words → Words → α :=
  round 13#32 19#32 (round 15#32 17#32 (round 26#32 6#32 (round 6#32 26#32 k)))

def oddGroup {α : Type} (k : Words → Words → α) : Words → Words → α :=
  round 17#32 15#32 (round 29#32 3#32 (round 16#32 16#32 (round 24#32 8#32 k)))

/-- Threefry-2x32 of the words (0, p) under the keys (a, b), with c the key schedule's third words; its two words xored. -/
def threefry (a b c : Keys) (p : Words) : Words :=
  evenGroup (inject b c 1#32 (oddGroup (inject c a 2#32 (evenGroup (inject a b 3#32 (oddGroup (inject b c 4#32
    (evenGroup (inject c a 5#32 fun x0 x1 => xori x0 x1))))))))) (spread a) (addi p (spread b))

/-- The counter: row · 8192 + code. -/
def counter : Words :=
  broadcastInDim S4x16384x8192 ![0, 1, 2] bcast_S1x16384x8192_S4x16384x8192_0_1_2
    (broadcastInDim S1x16384x8192 ![1, 2] bcast_S16384x8192_S1x16384x8192_1_2
      (shapeCast _ (iotaInDim S134217728 32 0) shapeCasts_S134217728_S16384x8192))

/-- The Gumbel noise of random words. -/
def gumbel (w : Words) : FVec F S4x16384x8192 .f32 :=
  Host.negf (Host.log (Host.negf (Host.log (maximumf (mulf (sitofp .f32 (id (Host.shrui w (word 9#32))))
    (broadcastInDim S4x16384x8192 ![] bcast_S_S4x16384x8192 (constant S_ .f32 0x34000000#32)))
    (broadcastInDim S4x16384x8192 ![] bcast_S_S4x16384x8192 (constant S_ .f32 0x00800000#32))))))

/-- The logits of the rows `r` over the codes `cb`: minus the squared distances, over the temperature. -/
def logits (r : FVec F S16384x32 .f32) (cb : FVec F S8192x32 .f32) : FVec F S16384x8192 .f32 :=
  Host.divf (Host.negf (subf (addf
    (broadcastInDim S16384x8192 ![0, 1] bcast_S16384x1_S16384x8192_0_1 (broadcastInDim S16384x1 ![0] bcast_S16384_S16384x1_0
      (Host.reduceAdd (mulf r r) (constant S_ .f32 0x00000000#32) reducesTo_S16384x32_S16384_d1 h_S_)))
    (broadcastInDim S16384x8192 ![0, 1] bcast_S1x8192_S16384x8192_0_1 (broadcastInDim S1x8192 ![1] bcast_S8192_S1x8192_1
      (Host.reduceAdd (mulf cb cb) (constant S_ .f32 0x00000000#32) reducesTo_S8192x32_S8192_d1 h_S_))))
    (Host.dotGeneral dot_S16384x32_S32x8192_S16384x8192_1_0_0_1_n_n none
      (mulf (broadcastInDim S16384x32 ![] bcast_S_S16384x32 (constant S_ .f32 0x40000000#32)) r)
      (transpose S32x8192 [1, 0] cb transposes_S8192x32_S32x8192_1_0))))
    (broadcastInDim S16384x8192 ![] bcast_S_S16384x8192 (constant S_ .f32 0x3F7FBE77#32))

/-- The scores: one codebook's noise, plus the logits. -/
def scores (g : FVec F S1x16384x8192 .f32) (r : FVec F S16384x32 .f32) (cb : FVec F S8192x32 .f32) : FVec F S16384x8192 .f32 :=
  addf (shapeCast _ g shapeCasts_S1x16384x8192_S16384x8192) (logits r cb)

/-- Each row's code of greatest score. -/
def argmax (v : FVec F S16384x8192 .f32) : IVec S16384 32 :=
  fun j => (Host.argReduce reducer_argmax_f32_i32 v (iotaInDim S16384x8192 32 1) (constant S_ .f32 0xFF800000#32)
    (constantI S_ 32 0#32) reducesTo_S16384x8192_S16384_d1 h_S_ j).2

theorem argmax_eq (v : FVec F S16384x8192 .f32) : argmax v = fun j => (Host.argReduce reducer_argmax_f32_i32 v
    (iotaInDim S16384x8192 32 1) (constant S_ .f32 0xFF800000#32) (constantI S_ 32 0#32) reducesTo_S16384x8192_S16384_d1 h_S_ j).2 := by
  sl_kernel_rfl

/-- The codes' vectors. -/
def take (cb : FVec F S8192x32 .f32) (j : IVec S16384 32) : FVec F S16384x32 .f32 :=
  Host.gather gather_S8192x32_S16384x1_S16384x32_1_0_n_n_0_1_132 cb (broadcastInDim S16384x1 ![0] bcast_S16384_S16384x1_0 j)

variable (V : Valuation τ sig (Elt F))

/-- The noise is of Threefry's words. -/
theorem noise_eq : res_main_v201 V = gumbel (threefry (res_main_v7 V) (res_main_v10 V) (res_main_v13 V) counter) := by
  sl_kernel_rfl

theorem scores0_eq : res_main_v223 V = scores (extractStridedSlice S1x16384x8192 ![0, 0, 0] (res_main_v201 V)
    slices_S4x16384x8192_S1x16384x8192_0_0_0) (res_main_v2 V) (res_main_v203 V) := by sl_kernel_rfl
theorem scores1_eq : res_main_v248 V = scores (extractStridedSlice S1x16384x8192 ![1, 0, 0] (res_main_v201 V)
    slices_S4x16384x8192_S1x16384x8192_1_0_0) (res_main_v226 V) (res_main_v228 V) := by sl_kernel_rfl
theorem scores2_eq : res_main_v273 V = scores (extractStridedSlice S1x16384x8192 ![2, 0, 0] (res_main_v201 V)
    slices_S4x16384x8192_S1x16384x8192_2_0_0) (res_main_v251 V) (res_main_v253 V) := by sl_kernel_rfl
theorem scores3_eq : res_main_v298 V = scores (extractStridedSlice S1x16384x8192 ![3, 0, 0] (res_main_v201 V)
    slices_S4x16384x8192_S1x16384x8192_3_0_0) (res_main_v276 V) (res_main_v278 V) := by sl_kernel_rfl

theorem code0_eq : res_main_v224 V = argmax (res_main_v223 V) := by sl_kernel_rfl
theorem code1_eq : res_main_v249 V = argmax (res_main_v248 V) := by sl_kernel_rfl
theorem code2_eq : res_main_v274 V = argmax (res_main_v273 V) := by sl_kernel_rfl
theorem code3_eq : res_main_v299 V = argmax (res_main_v298 V) := by sl_kernel_rfl

theorem taken0_eq : res_main_v225 V = take (res_main_v203 V) (res_main_v224 V) := by sl_kernel_rfl
theorem taken1_eq : res_main_v250 V = take (res_main_v228 V) (res_main_v249 V) := by sl_kernel_rfl
theorem taken2_eq : res_main_v275 V = take (res_main_v253 V) (res_main_v274 V) := by sl_kernel_rfl
theorem taken3_eq : res_main_v300 V = take (res_main_v278 V) (res_main_v299 V) := by sl_kernel_rfl

end Model

/-! ### The keys -/

variable (V : Valuation τ sig (Elt Ideal))

theorem key_a (c : Fin 4) : res_main_v7 V (ix3 c 0 0) = lit0 (S4x2.rowMajor (ix2 c 0)) := by
  unfold res_main_v7 res_main_c
  clean_types
  pointwise

theorem key_b (c : Fin 4) : res_main_v10 V (ix3 c 0 0) = lit0 (S4x2.rowMajor (ix2 c 1)) := by
  unfold res_main_v10 res_main_c
  clean_types
  pointwise

theorem key_c (c : Fin 4) :
    res_main_v13 V (ix3 c 0 0) = IntOp.xori (w := 32) (IntOp.xori (w := 32) (res_main_v7 V (ix3 c 0 0)) (res_main_v10 V (ix3 c 0 0))) 466688986#32 :=
  rfl

theorem keys0 : res_main_v7 V (ix3 0 0 0) = 507451445#32 ∧ res_main_v10 V (ix3 0 0 0) = 1853169794#32
    ∧ res_main_v13 V (ix3 0 0 0) = 1805329261#32 := by
  have ha : res_main_v7 V (ix3 0 0 0) = 507451445#32 := (key_a V 0).trans (by rfl)
  have hb : res_main_v10 V (ix3 0 0 0) = 1853169794#32 := (key_b V 0).trans (by rfl)
  exact ⟨ha, hb, by rw [key_c, ha, hb]; rfl⟩
theorem keys1 : res_main_v7 V (ix3 1 0 0) = 1948878966#32 ∧ res_main_v10 V (ix3 1 0 0) = 4237131848#32
    ∧ res_main_v13 V (ix3 1 0 0) = 2473923556#32 := by
  have ha : res_main_v7 V (ix3 1 0 0) = 1948878966#32 := (key_a V 1).trans (by rfl)
  have hb : res_main_v10 V (ix3 1 0 0) = 4237131848#32 := (key_b V 1).trans (by rfl)
  exact ⟨ha, hb, by rw [key_c, ha, hb]; rfl⟩
theorem keys2 : res_main_v7 V (ix3 2 0 0) = 2441914641#32 ∧ res_main_v10 V (ix3 2 0 0) = 3819641963#32
    ∧ res_main_v13 V (ix3 2 0 0) = 1777774240#32 := by
  have ha : res_main_v7 V (ix3 2 0 0) = 2441914641#32 := (key_a V 2).trans (by rfl)
  have hb : res_main_v10 V (ix3 2 0 0) = 3819641963#32 := (key_b V 2).trans (by rfl)
  exact ⟨ha, hb, by rw [key_c, ha, hb]; rfl⟩
theorem keys3 : res_main_v7 V (ix3 3 0 0) = 3568232559#32 ∧ res_main_v10 V (ix3 3 0 0) = 2761185182#32
    ∧ res_main_v13 V (ix3 3 0 0) = 1810605099#32 := by
  have ha : res_main_v7 V (ix3 3 0 0) = 3568232559#32 := (key_a V 3).trans (by rfl)
  have hb : res_main_v10 V (ix3 3 0 0) = 2761185182#32 := (key_b V 3).trans (by rfl)
  exact ⟨ha, hb, by rw [key_c, ha, hb]; rfl⟩

/-! ### The random words -/

/-- `k` on arrays is `k'` at the index `j`. -/
def At (j : S4x16384x8192.Idx) (k : Words → Words → Words) (k' : BitVec 32 → BitVec 32 → BitVec 32) : Prop :=
  ∀ x0 x1, k x0 x1 j = k' (x0 j) (x1 j)

section Rounds

variable {j : S4x16384x8192.Idx} {k : Words → Words → Words} {k' : BitVec 32 → BitVec 32 → BitVec 32}

theorem At.round {a b : BitVec 32} (ha : a.toNat < 32) (hb : b.toNat < 32) (h : At j k k') :
    At j (Whole.round a b k) (Spec.round a b k') := fun x0 x1 => by
  have e1 : Host.shli x1 (word a) j = x1 j <<< a := if_pos ha
  have e2 : Host.shrui x1 (word b) j = x1 j >>> b := if_pos hb
  unfold Whole.round Spec.round
  rw [h, ← e1, ← e2]
  rfl

theorem spread_at (a : Keys) (c : Fin 4) (n : Fin 16384) (k : Fin 8192) : spread a (ix3 c n k) = a (ix3 c 0 0) := by
  pointwise

theorem At.inject {c : Fin 4} {n : Fin 16384} {q : Fin 8192} {a b : Keys} {w : BitVec 32} (h : At (ix3 c n q) k k') :
    At (ix3 c n q) (Whole.inject a b w k) (Spec.inject (a (ix3 c 0 0)) (b (ix3 c 0 0)) w k') := fun x0 x1 => by
  unfold Whole.inject Spec.inject
  rw [h]
  show k' (x0 _ + spread a _) (x1 _ + spread _ _) = _
  rw [spread_at, spread_at, BitVec.add_assoc]
  rfl

theorem At.evenGroup (h : At j k k') : At j (Whole.evenGroup k) (Spec.evenGroup k') :=
  (((h.round (by decide) (by decide)).round (by decide) (by decide)).round (by decide) (by decide)).round
    (by decide) (by decide)

theorem At.oddGroup (h : At j k k') : At j (Whole.oddGroup k) (Spec.oddGroup k') :=
  (((h.round (by decide) (by decide)).round (by decide) (by decide)).round (by decide) (by decide)).round
    (by decide) (by decide)

theorem At.xor : At j (fun x0 x1 => xori x0 x1) (fun x0 x1 => x0 ^^^ x1) := fun _ _ => rfl

theorem threefry_at (a b c : Keys) (p : Words) (q : Fin 4) (n : Fin 16384) (k : Fin 8192) :
    threefry a b c p (ix3 q n k)
      = Spec.threefry (a (ix3 q 0 0)) (b (ix3 q 0 0)) (c (ix3 q 0 0)) (p (ix3 q n k)) := by
  have h := At.xor.inject (a := c) (b := a) (w := 5#32) (c := q) (n := n) (q := k)
  have h := (h.evenGroup.inject (a := b) (b := c) (w := 4#32)).oddGroup
  have h := (h.inject (a := a) (b := b) (w := 3#32)).evenGroup
  have h := (h.inject (a := c) (b := a) (w := 2#32)).oddGroup
  have h := (h.inject (a := b) (b := c) (w := 1#32)).evenGroup
  unfold threefry Spec.threefry
  rw [h]
  show Spec.evenGroup _ (spread a _) (p _ + spread b _) = _
  rw [spread_at, spread_at]

theorem counter_at (q : Fin 4) (n : Fin 16384) (k : Fin 8192) :
    counter (ix3 q n k) = BitVec.ofNat 32 (n.val * 8192 + k.val) := by
  pointwise [counter]

theorem gumbel_at (w : Words) (q : Fin 4) (n : Fin 16384) (k : Fin 8192) :
    gumbel (F := Ideal) w (ix3 q n k) = Spec.gumbel (w (ix3 q n k)) := by
  have e : w (ix3 q n k) >>> 9#32 = Host.shrui w (word 9#32) (ix3 q n k) := by
    show _ = IntOp.shrui _ _ _
    unfold IntOp.shrui
    exact (if_pos (show (9#32).toNat < 32 by decide)).symm
  unfold Spec.gumbel
  rw [← Spec.fraction_of_word, e]
  pointwise [gumbel]
  rfl

end Rounds

/-- The noise of codebook `q`, row `n`, code `k`. -/
theorem noise_at (q : Fin 4) (n : Fin 16384) (k : Fin 8192) :
    res_main_v201 V (ix3 q n k) = Spec.gumbel (Spec.threefry (res_main_v7 V (ix3 q 0 0)) (res_main_v10 V (ix3 q 0 0))
      (res_main_v13 V (ix3 q 0 0)) (BitVec.ofNat 32 (n.val * 8192 + k.val))) := by
  rw [noise_eq, gumbel_at, threefry_at, counter_at]

/-! ### The scores -/

theorem logits_at (r : FVec Ideal S16384x32 .f32) (cb : FVec Ideal S8192x32 .f32) (n : Fin 16384) (k : Fin 8192) :
    logits r cb (ix2 n k)
      = -((∑ d, r (ix2 n d) * r (ix2 n d) + ∑ d, cb (ix2 k d) * cb (ix2 k d))
          - Ideal.ofBits .f32 0x40000000#32 * ∑ d, r (ix2 n d) * cb (ix2 k d)) * Spec.invTemp := by
  rw [Spec.ofBits_two, Spec.mul_sum_of_nonneg _ _ _ (by norm_num), ← Spec.ofBits_two]
  pointwise [logits]
  rw [Spec.ofBits_temp, Ideal.div_coe (by norm_num)]
  simp only [mul_assoc, Spec.invTemp]
  norm_num

/-- The scores of row `n` are `Spec.score`, when `g` is the noise under the key (a, b). -/
theorem scores_at (a b c : BitVec 32) (g : FVec Ideal S1x16384x8192 .f32) (r : FVec Ideal S16384x32 .f32)
    (cb : FVec Ideal S8192x32 .f32) (n : Fin 16384)
    (hg : ∀ k : Fin 8192, g (ix3 0 n k) = Spec.gumbel (Spec.threefry a b c (BitVec.ofNat 32 (n.val * 8192 + k.val)))) :
    (fun k => scores g r cb (ix2 n k)) = Spec.score a b c n.val (fun d => r (ix2 n d)) (fun k d => cb (ix2 k d)) := by
  funext k
  unfold Spec.score
  rw [← hg, ← logits_at]
  pointwise [scores]

/-! ### The arg-max -/

theorem reducer_spec (a b : EReal × BitVec 32) (ha : a.2.toNat < 2 ^ 31) (hb : b.2.toNat < 2 ^ 31) :
    (reducer_argmax_f32_i32 (F := Ideal) a b = a ∨ reducer_argmax_f32_i32 (F := Ideal) a b = b)
      ∧ FirstMax.NoBetter a (reducer_argmax_f32_i32 (F := Ideal) a b)
      ∧ FirstMax.NoBetter b (reducer_argmax_f32_i32 (F := Ideal) a b) := by
  have hsl : (a.2.slt b.2 = true) ↔ a.2.toNat < b.2.toNat := by
    have ea := BitVec.toInt_eq_toNat_cond a.2
    have eb := BitVec.toInt_eq_toNat_cond b.2
    simp only [BitVec.slt, decide_eq_true_eq]
    split_ifs at ea eb <;> omega
  rcases lt_trichotomy b.1 a.1 with h | h | h
  · have e : reducer_argmax_f32_i32 (F := Ideal) a b = a := by
      refine Prod.ext ?_ ?_ <;>
        simp [reducer_argmax_f32_i32, Ideal.cmpf_def, Ideal.cmp, IntOp.ori, IntOp.andi, Scalar.select, h, h.ne']
    rw [e]
    exact ⟨.inl rfl, .inr ⟨rfl, le_rfl⟩, .inl h⟩
  · by_cases h2 : a.2.toNat < b.2.toNat
    · have e : reducer_argmax_f32_i32 (F := Ideal) a b = a := by
        have := hsl.mpr h2
        refine Prod.ext ?_ ?_ <;>
          simp [reducer_argmax_f32_i32, Ideal.cmpf_def, Ideal.cmp, IntOp.ori, IntOp.andi, IntOp.cmpi, Scalar.select, h, this]
      rw [e]
      exact ⟨.inl rfl, .inr ⟨rfl, le_rfl⟩, .inr ⟨h, h2.le⟩⟩
    · have e : reducer_argmax_f32_i32 (F := Ideal) a b = b := by
        have : a.2.slt b.2 = false := by
          rw [← Bool.not_eq_true, hsl]; exact h2
        refine Prod.ext ?_ ?_ <;>
          simp [reducer_argmax_f32_i32, Ideal.cmpf_def, Ideal.cmp, IntOp.ori, IntOp.andi, IntOp.cmpi, Scalar.select, h, this]
      rw [e]
      exact ⟨.inr rfl, .inr ⟨h.symm, not_lt.mp h2⟩, .inr ⟨rfl, le_rfl⟩⟩
  · have e : reducer_argmax_f32_i32 (F := Ideal) a b = b := by
      simp [reducer_argmax_f32_i32, Ideal.cmpf_def, Ideal.cmp, IntOp.ori, IntOp.andi, Scalar.select, h.not_gt, h.ne]
    rw [e]
    exact ⟨.inr rfl, .inl h, .inr ⟨rfl, le_rfl⟩⟩

/-- A row's fiber: its values, each with its column. -/
theorem mem_fiber (v : FVec Ideal S16384x8192 .f32) (n : Fin 16384) (p : EReal × BitVec 32) :
    p ∈ Host.argReduceFiber v (iotaInDim S16384x8192 32 1) reducesTo_S16384x8192_S16384_d1 (ix1 n)
      ↔ ∃ k : Fin 8192, p = (v (ix2 n k), BitVec.ofNat 32 k.val) := by
  have hdrop : ∀ i : S16384x8192.Idx, reducesTo_S16384x8192_S16384_d1.drop i = ix1 n ↔ i 0 = n := fun i => by
    have hv : (reducesTo_S16384x8192_S16384_d1.drop i 0 : Nat) = i 0 := Shape.ReducesTo.drop_apply_val _ i 0
    constructor
    · intro e; rw [e] at hv; exact Fin.ext hv.symm
    · intro e; funext b; have hb : b = 0 := Subsingleton.elim _ _; subst hb; exact Fin.ext (by rw [hv, e]; rfl)
  unfold Host.argReduceFiber
  simp only [List.mem_map, List.mem_filter, List.mem_finRange, true_and, decide_eq_true_eq, hdrop]
  constructor
  · rintro ⟨m, hm, rfl⟩
    refine ⟨S16384x8192.rowMajor.symm m 1, ?_⟩
    have e : S16384x8192.rowMajor.symm m = ix2 n (S16384x8192.rowMajor.symm m 1) :=
      (ValueIdx.eq_ix2 _).trans (by rw [hm]; rfl)
    exact Prod.ext (congrArg v e) rfl
  · rintro ⟨k, rfl⟩
    exact ⟨S16384x8192.rowMajor (ix2 n k), by rw [Equiv.symm_apply_apply]; rfl, by rw [Equiv.symm_apply_apply]; rfl⟩

/-- The pair found from `(⊥, 0)` has the first column of greatest value. -/
theorem argReduce_first (v : FVec Ideal S16384x8192 .f32) (n : Fin 16384) (x0 : FVec Ideal S_ .f32) (i0 : IVec S_ 32)
    (hp : (x0 (Shape.Idx.first h_S_), i0 (Shape.Idx.first h_S_)) = ((⊥ : EReal), 0#32)) :
    FirstMax.First (fun k => v (ix2 n k)) (Host.argReduce reducer_argmax_f32_i32 v (iotaInDim S16384x8192 32 1) x0 i0
      reducesTo_S16384x8192_S16384_d1 h_S_ (ix1 n)).2.toNat := by
  have hnat : ∀ k : Fin 8192, (BitVec.ofNat 32 k.val).toNat < 2 ^ 31 := fun k => by
    rw [BitVec.toNat_ofNat]; omega
  rw [Ideal.argReduce_eq_reduce2, Host.reduce2_eq_foldl_fiber]
  have hmem := mem_fiber v n
  generalize Host.argReduceFiber v (iotaInDim S16384x8192 32 1) reducesTo_S16384x8192_S16384_d1 (ix1 n) = l at hmem ⊢
  obtain ⟨h1, -, h3⟩ := FirstMax.foldl_spec (reducer_argmax_f32_i32 (F := Ideal)) (fun p => p.2.toNat < 2 ^ 31)
    reducer_spec l (fun p hp => by obtain ⟨k, rfl⟩ := (hmem p).mp hp; exact hnat k)
    (x0 (Shape.Idx.first h_S_), i0 (Shape.Idx.first h_S_)) (by rw [hp]; decide)
  refine FirstMax.first_of_pair (by decide) (by decide) _ _ ?_ fun k => h3 _ ((hmem _).mpr ⟨k, rfl⟩)
  exact h1.imp (fun h => h.trans hp) fun h => (hmem _).mp h

theorem start_pair : ((constant S_ .f32 0xFF800000#32 : FVec Ideal S_ .f32) (Shape.Idx.first h_S_),
    constantI S_ 32 0#32 (Shape.Idx.first h_S_)) = ((⊥ : EReal), 0#32) :=
  Prod.ext Spec.ofBits_neg_inf rfl

/-- The arg-max is the first code of greatest score. -/
theorem argmax_first (v : FVec Ideal S16384x8192 .f32) (n : Fin 16384) :
    FirstMax.First (fun k => v (ix2 n k)) (argmax v (ix1 n)).toNat := by
  rw [argmax_eq]
  exact argReduce_first v n (constant S_ .f32 0xFF800000#32) (constantI S_ 32 0#32) start_pair

/-! ### The rows taken -/

theorem take_at (cb : FVec Ideal S8192x32 .f32) (j : IVec S16384 32) (n : Fin 16384) (d : Fin 32) (k : Fin 8192)
    (hk : j (ix1 n) = BitVec.ofNat 32 k.val) : take cb j (ix2 n d) = cb (ix2 k d) := by
  refine Routing.gather_row gather_S8192x32_S16384x1_S16384x32_1_0_n_n_0_1_132 rfl rfl rfl rfl rfl cb _ n d k ?_ (by decide)
  rw [← hk]
  pointwise

end Cert.ReferenceIdeal.Whole

end
-- ==== Proof.Rows.lean ====
/- A row of a tile against the same row of the reference: the four codes, what is left after each, and the sum of the codes'
   vectors agree. -/
module

public import proofs.«01_k».proof.Proof.TileValue
public import proofs.«01_k».proof.Proof.RefModel

@[expose] public section

set_option maxRecDepth 16384

noncomputable section

namespace Cert.Rows

open Cert.ReferenceIdeal.Value Idealize.ShloMosaic Idealize.ShloMosaic.TcCoe
open Cert.KernelIdeal (S512x32 S512x1 grid0)
open Cert.ReferenceIdeal (S16384x32 S8192x32 S1x16384x8192)

/-- One codebook: on a row where the two sides hold the same values, they sample the same code and take the same vector. -/
theorem step (a b c : BitVec 32) (i : grid0.Coords) (r : FVec Ideal S512x32 .f32) (R : FVec Ideal S16384x32 .f32)
    (cb cb' : FVec Ideal S8192x32 .f32) (g : FVec Ideal S1x16384x8192 .f32) (p : Fin 512) (n : Fin 16384)
    (hn : n.val = (i 0).val * 512 + p.val)
    (hg : ∀ k : Fin 8192, g (ix3 0 n k) = Spec.gumbel (Spec.threefry a b c (BitVec.ofNat 32 (n.val * 8192 + k.val))))
    (hr : ∀ d, r (ix2 p d) = R (ix2 n d)) (hcb : ∀ k d, cb (ix2 k d) = cb' (ix2 k d)) :
    KernelIdeal.Tile.sample a b c i r cb (ix2 p 0)
        = ReferenceIdeal.Whole.argmax (ReferenceIdeal.Whole.scores g R cb') (ix1 n)
      ∧ ∀ d, KernelIdeal.Tile.lookup (KernelIdeal.Tile.sample a b c i r cb) cb (ix2 p d)
        = ReferenceIdeal.Whole.take cb' (ReferenceIdeal.Whole.argmax (ReferenceIdeal.Whole.scores g R cb')) (ix2 n d) := by
  have h1 := KernelIdeal.Tile.sample_first a b c i r cb p
  have h2 := ReferenceIdeal.Whole.argmax_first (ReferenceIdeal.Whole.scores g R cb') n
  rw [ReferenceIdeal.Whole.scores_at a b c g R cb' n hg] at h2
  rw [← hn] at h1
  simp only [hr, hcb] at h1
  have e := BitVec.eq_of_toNat_eq (h1.unique h2)
  refine ⟨e, fun d => ?_⟩
  obtain ⟨k, hk, -⟩ := h2.at_max
  have hj : ReferenceIdeal.Whole.argmax (ReferenceIdeal.Whole.scores g R cb') (ix1 n) = BitVec.ofNat 32 k.val := by
    rw [hk, BitVec.ofNat_toNat, BitVec.setWidth_eq]
  rw [KernelIdeal.Tile.lookup_at _ cb p d k (e.trans hj), ReferenceIdeal.Whole.take_at cb' _ n d k hj, hcb]

/-- The sum of the four vectors that the reference takes. -/
def sums (V : Valuation ReferenceIdeal.τ ReferenceIdeal.sig (Elt Ideal)) : FVec Ideal S16384x32 .f32 :=
  addf (addf (addf (res_main_v225 V) (res_main_v250 V)) (res_main_v275 V)) (res_main_v300 V)

theorem add4 (a b c d : FVec Ideal S16384x32 .f32) (j : S16384x32.Idx) (x y z w : EReal) (ha : x = a j) (hb : y = b j)
    (hc : z = c j) (hd : w = d j) :
    Ideal.ofBits .f32 0x00000000#32 + x + y + z + w = addf (addf (addf a b) c) d j := by
  rw [Ideal.ofBits_zero_f32, zero_add, ha, hb, hc, hd]
  rfl

section Four

variable (V : Valuation ReferenceIdeal.τ ReferenceIdeal.sig (Elt Ideal)) (i : grid0.Coords) (r : FVec Ideal S512x32 .f32)
  (c0 c1 c2 c3 : FVec Ideal S8192x32 .f32) (p : Fin 512) (n : Fin 16384) (hn : n.val = (i 0).val * 512 + p.val)
  (hr : ∀ d, r (ix2 p d) = res_main_v2 V (ix2 n d))
  (h0 : ∀ k d, c0 (ix2 k d) = res_main_v203 V (ix2 k d)) (h1 : ∀ k d, c1 (ix2 k d) = res_main_v228 V (ix2 k d))
  (h2 : ∀ k d, c2 (ix2 k d) = res_main_v253 V (ix2 k d)) (h3 : ∀ k d, c3 (ix2 k d) = res_main_v278 V (ix2 k d))

include hn hr h0

theorem book0 : KernelIdeal.Tile.code0 i r c0 (ix2 p 0) = res_main_v224 V (ix1 n)
    ∧ (∀ d, KernelIdeal.Tile.lookup (KernelIdeal.Tile.code0 i r c0) c0 (ix2 p d) = res_main_v225 V (ix2 n d))
    ∧ ∀ d, KernelIdeal.Tile.rest1 i r c0 (ix2 p d) = res_main_v226 V (ix2 n d) := by
  obtain ⟨ha, hb, hc⟩ := ReferenceIdeal.Whole.keys0 V
  have h := step 507451445#32 1853169794#32 1805329261#32 i r (res_main_v2 V) c0 (res_main_v203 V) _ p n hn
    (fun k => by
      rw [← ha, ← hb, ← hc, ← ReferenceIdeal.Whole.noise_at]
      exact (by pointwise : extractStridedSlice S1x16384x8192 ![0, 0, 0] (res_main_v201 V)
        ReferenceIdeal.Gen.slices_S4x16384x8192_S1x16384x8192_0_0_0 (ix3 0 n k) = res_main_v201 V (ix3 0 n k))) hr h0
  rw [← ReferenceIdeal.Whole.scores0_eq, ← ReferenceIdeal.Whole.code0_eq, ← ReferenceIdeal.Whole.taken0_eq] at h
  exact ⟨h.1, h.2, fun d => congrArg₂ (· - ·) (hr d) (h.2 d)⟩

include h1

theorem book1 : KernelIdeal.Tile.code1 i r c0 c1 (ix2 p 0) = res_main_v249 V (ix1 n)
    ∧ (∀ d, KernelIdeal.Tile.lookup (KernelIdeal.Tile.code1 i r c0 c1) c1 (ix2 p d) = res_main_v250 V (ix2 n d))
    ∧ ∀ d, KernelIdeal.Tile.rest2 i r c0 c1 (ix2 p d) = res_main_v251 V (ix2 n d) := by
  obtain ⟨ha, hb, hc⟩ := ReferenceIdeal.Whole.keys1 V
  have hr1 := (book0 V i r c0 p n hn hr h0).2.2
  have h := step 1948878966#32 4237131848#32 2473923556#32 i _ (res_main_v226 V) c1 (res_main_v228 V) _ p n hn
    (fun k => by
      rw [← ha, ← hb, ← hc, ← ReferenceIdeal.Whole.noise_at]
      exact (by pointwise : extractStridedSlice S1x16384x8192 ![1, 0, 0] (res_main_v201 V)
        ReferenceIdeal.Gen.slices_S4x16384x8192_S1x16384x8192_1_0_0 (ix3 0 n k) = res_main_v201 V (ix3 1 n k))) hr1 h1
  rw [← ReferenceIdeal.Whole.scores1_eq, ← ReferenceIdeal.Whole.code1_eq, ← ReferenceIdeal.Whole.taken1_eq] at h
  exact ⟨h.1, h.2, fun d => congrArg₂ (· - ·) (hr1 d) (h.2 d)⟩

include h2

theorem book2 : KernelIdeal.Tile.code2 i r c0 c1 c2 (ix2 p 0) = res_main_v274 V (ix1 n)
    ∧ (∀ d, KernelIdeal.Tile.lookup (KernelIdeal.Tile.code2 i r c0 c1 c2) c2 (ix2 p d) = res_main_v275 V (ix2 n d))
    ∧ ∀ d, KernelIdeal.Tile.rest3 i r c0 c1 c2 (ix2 p d) = res_main_v276 V (ix2 n d) := by
  obtain ⟨ha, hb, hc⟩ := ReferenceIdeal.Whole.keys2 V
  have hr2 := (book1 V i r c0 c1 p n hn hr h0 h1).2.2
  have h := step 2441914641#32 3819641963#32 1777774240#32 i _ (res_main_v251 V) c2 (res_main_v253 V) _ p n hn
    (fun k => by
      rw [← ha, ← hb, ← hc, ← ReferenceIdeal.Whole.noise_at]
      exact (by pointwise : extractStridedSlice S1x16384x8192 ![2, 0, 0] (res_main_v201 V)
        ReferenceIdeal.Gen.slices_S4x16384x8192_S1x16384x8192_2_0_0 (ix3 0 n k) = res_main_v201 V (ix3 2 n k))) hr2 h2
  rw [← ReferenceIdeal.Whole.scores2_eq, ← ReferenceIdeal.Whole.code2_eq, ← ReferenceIdeal.Whole.taken2_eq] at h
  exact ⟨h.1, h.2, fun d => congrArg₂ (· - ·) (hr2 d) (h.2 d)⟩

include h3

theorem book3 : KernelIdeal.Tile.code3 i r c0 c1 c2 c3 (ix2 p 0) = res_main_v299 V (ix1 n)
    ∧ (∀ d, KernelIdeal.Tile.lookup (KernelIdeal.Tile.code3 i r c0 c1 c2 c3) c3 (ix2 p d) = res_main_v300 V (ix2 n d)) := by
  obtain ⟨ha, hb, hc⟩ := ReferenceIdeal.Whole.keys3 V
  have hr3 := (book2 V i r c0 c1 c2 p n hn hr h0 h1 h2).2.2
  have h := step 3568232559#32 2761185182#32 1810605099#32 i _ (res_main_v276 V) c3 (res_main_v278 V) _ p n hn
    (fun k => by
      rw [← ha, ← hb, ← hc, ← ReferenceIdeal.Whole.noise_at]
      exact (by pointwise : extractStridedSlice S1x16384x8192 ![3, 0, 0] (res_main_v201 V)
        ReferenceIdeal.Gen.slices_S4x16384x8192_S1x16384x8192_3_0_0 (ix3 0 n k) = res_main_v201 V (ix3 3 n k))) hr3 h3
  rw [← ReferenceIdeal.Whole.scores3_eq, ← ReferenceIdeal.Whole.code3_eq, ← ReferenceIdeal.Whole.taken3_eq] at h
  exact ⟨h.1, h.2⟩

/-- The tile's row of sums. -/
theorem total_at (d : Fin 32) : KernelIdeal.Tile.total i r c0 c1 c2 c3 (ix2 p d)
    = sums V (ix2 n d) := by
  exact add4 _ _ _ _ _ _ _ _ _ ((book0 V i r c0 p n hn hr h0).2.1 d) ((book1 V i r c0 c1 p n hn hr h0 h1).2.1 d)
    ((book2 V i r c0 c1 c2 p n hn hr h0 h1 h2).2.1 d) ((book3 V i r c0 c1 c2 c3 p n hn hr h0 h1 h2 h3).2 d)

/-- The tile's row of codes. -/
theorem codes_at : KernelIdeal.Tile.codes i r c0 c1 c2 c3 (ix2 p 0) = res_main_v224 V (ix1 n)
    ∧ KernelIdeal.Tile.codes i r c0 c1 c2 c3 (ix2 p 1) = res_main_v249 V (ix1 n)
    ∧ KernelIdeal.Tile.codes i r c0 c1 c2 c3 (ix2 p 2) = res_main_v274 V (ix1 n)
    ∧ KernelIdeal.Tile.codes i r c0 c1 c2 c3 (ix2 p 3) = res_main_v299 V (ix1 n) := by
  rw [← (book0 V i r c0 p n hn hr h0).1, ← (book1 V i r c0 c1 p n hn hr h0 h1).1,
    ← (book2 V i r c0 c1 c2 p n hn hr h0 h1 h2).1, ← (book3 V i r c0 c1 c2 c3 p n hn hr h0 h1 h2 h3).1]
  unfold KernelIdeal.Tile.codes
  refine ⟨?_, ?_, ?_, ?_⟩ <;> pointwise

end Four

end Cert.Rows

end
-- ==== Proof.Region.lean ====
/- The two arrays that the kernel's grid leaves: at every row, the reference's sum of code vectors and its four codes. -/
module

public import proofs.«01_k».proof.Proof.Bridge
public import proofs.«01_k».proof.Proof.Rows
public import proofs.«01_k».proof.Proof.Gen.KernelIdeal.Run
public import Idealize.ShloMosaic.Lib.Pipeline.ValueKit

@[expose] public section

set_option maxRecDepth 16384

noncomputable section

namespace Cert.KernelIdeal.Region

open Cert.KernelIdeal Cert.KernelIdeal.Gen Cert.KernelIdeal.Tile Cert.KernelIdeal.Value
open Idealize.SL.Sem Idealize.ShloMosaic Idealize.ShloMosaic.Pipeline Idealize.ShloMosaic.StableHlo Idealize.ShloMosaic.TcCoe

/-- The zero offsets. -/
theorem hz : (![0, 0] : Fin 2 → Nat) = fun _ => 0 := funext fun a => by fin_cases a <;> rfl

section Body

variable (c : Dev nD) (i : grid0.Coords) (arg1 : Memref sig .tc .vmem S512x32 .f32) (harg1 : arg1.IsWhole)
  (arg2 : Memref sig .tc .vmem S32x32 .f32) (harg2 : arg2.IsWhole) (arg3 : Memref sig .tc .vmem S4x8192x32 .f32) (harg3 : arg3.IsWhole)

/-- The rows and the rotation are loaded whole. -/
theorem rowsOf_eq (x0 : Vec Ideal S512x32 .f32) (x1 : Vec Ideal S32x32 .f32) : rowsOf arg1 harg1 arg2 harg2 x0 x1 = rotate x0 x1 := by
  unfold rowsOf
  rw [View.readAt_eq_ld, View.readAt_eq_ld, harg1.read_unread, harg2.read_unread, View.ld_unit_zero hz, View.ld_unit_zero hz]

/-- The load of one codebook, at an index. -/
theorem book0_at (x2 : Vec Ideal S4x8192x32 .f32) (k : Fin 8192) (d : Fin 32) : Tile.book0 arg3 harg3 x2 (ix2 k d) = x2 (ix3 0 k d) := by
  unfold Tile.book0
  rw [book_at, View.readAt_eq_ld, harg3.read_unread]
  pointwise
theorem book1_at (x2 : Vec Ideal S4x8192x32 .f32) (k : Fin 8192) (d : Fin 32) : Tile.book1 arg3 harg3 x2 (ix2 k d) = x2 (ix3 1 k d) := by
  unfold Tile.book1
  rw [book_at, View.readAt_eq_ld, harg3.read_unread]
  pointwise
theorem book2_at (x2 : Vec Ideal S4x8192x32 .f32) (k : Fin 8192) (d : Fin 32) : Tile.book2 arg3 harg3 x2 (ix2 k d) = x2 (ix3 2 k d) := by
  unfold Tile.book2
  rw [book_at, View.readAt_eq_ld, harg3.read_unread]
  pointwise
theorem book3_at (x2 : Vec Ideal S4x8192x32 .f32) (k : Fin 8192) (d : Fin 32) : Tile.book3 arg3 harg3 x2 (ix2 k d) = x2 (ix3 3 k d) := by
  unfold Tile.book3
  rw [book_at, View.readAt_eq_ld, harg3.read_unread]
  pointwise

variable (arg4 : Memref sig .tc .vmem S512x32 .f32) (harg4 : arg4.IsWhole) (arg5 : Memref sig .tc .vmem S512x4 .i32) (harg5 : arg5.IsWhole)
  (arg6 : Memref sig .tc .vmem S8x128 .f32) (harg6 : arg6.IsWhole)
  (x0 : Vec Ideal S512x32 .f32) (x1 : Vec Ideal S32x32 .f32) (x2 : Vec Ideal S4x8192x32 .f32)

/-- What a grid point leaves in its block of sums. -/
theorem out_total : out0_A_3 c i arg1 harg1 arg2 harg2 arg3 harg3 arg4 harg4 arg5 harg5 arg6 harg6 x0 x1 x2
    = total i (rotate x0 x1) (Tile.book0 arg3 harg3 x2) (Tile.book1 arg3 harg3 x2) (Tile.book2 arg3 harg3 x2) (Tile.book3 arg3 harg3 x2) := by
  unfold out0_A_3
  rw [View.read_writes_junk_eq_canon, pieces_total, View.canon_unit_zero hz, rowsOf_eq]

/-- What a grid point leaves in its block of codes. -/
theorem out_codes : out0_A_4 c i arg1 harg1 arg2 harg2 arg3 harg3 arg4 harg4 arg5 harg5 arg6 harg6 x0 x1 x2
    = codes i (rotate x0 x1) (Tile.book0 arg3 harg3 x2) (Tile.book1 arg3 harg3 x2) (Tile.book2 arg3 harg3 x2) (Tile.book3 arg3 harg3 x2) := by
  unfold out0_A_4
  rw [View.read_writes_junk_eq_canon, pieces_codes, View.canon_unit_zero hz, rowsOf_eq]

end Body

variable (m : (ℓ : Loc nD τ sig) → Buf (Elt Ideal) ℓ)

/-- The rows as the region finds them. -/
theorem V_main_v1 (c : Dev nD) : Gen.V m c main_v1
    = shapeCast S16384x32 (transpose S16x32x32x32 [0, 2, 3, 1] (m ((c : Thread nD τ).loc main_arg0)) transposes_S16x32x32x32_S16x32x32x32_0_2_3_1)
        shapeCasts_S16x32x32x32_S16384x32 := by
  unfold Gen.V Gen.V0
  simp only [Gen.hostOps0, List.flatten_cons, List.flatten_nil, List.append_nil, List.cons_append, List.nil_append]
  after_results_simp <;> rfl

/-- The windows' block indices: the rows and the two results move with the grid, the rotation and the codebooks stay. -/
theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = (grid0.coords t 0).val ∧ win0_3.index t (1 : Fin 2) = 0 :=
  (by decide +kernel : ∀ t : Fin grid0.N, _)
theorem idx4 : ∀ t : Fin cfg0.N, win0_4.index t (0 : Fin 2) = (grid0.coords t 0).val ∧ win0_4.index t (1 : Fin 2) = 0 :=
  (by decide +kernel : ∀ t : Fin grid0.N, _)

/-- The row of the whole array at row `p` of tile `t`. -/
def row (t : Fin cfg0.N) (p : Fin 512) : Fin 16384 :=
  ⟨(grid0.coords t 0).val * 512 + p.val, by
    have h : (grid0.coords t 0).val < 32 := (grid0.coords t 0).isLt
    have := p.isLt
    omega⟩

/-- A tile's row is a row of the whole array. -/
theorem rows_at (c : Dev nD) (t : Fin cfg0.N) (p : Fin 512) (d : Fin 32) :
    (iblk m c 0 t : Vec Ideal S512x32 .f32) (ix2 p d) = (Gen.V m c main_v1 : Vec Ideal S16384x32 .f32) (ix2 (row t p) d) := by
  obtain ⟨e0, e1⟩ := idx0 t
  refine congrArg (Gen.V m c main_v1 : Vec Ideal S16384x32 .f32) (funext fun a => Fin.ext ?_)
  match a with
  | ⟨0, _⟩ => show win0_0.index t (0 : Fin 2) * 512 + 1 * p.val = (grid0.coords t 0).val * 512 + p.val; omega
  | ⟨1, _⟩ => show win0_0.index t (1 : Fin 2) * 32 + 1 * d.val = d.val; omega

/-- Every tile sees the whole rotation. -/
theorem rotation_at (c : Dev nD) (t : Fin cfg0.N) (j : S32x32.Idx) :
    (iblk m c 1 t : Vec Ideal S32x32 .f32) j = (m ((c : Thread nD τ).loc main_arg1) : Vec Ideal S32x32 .f32) j := by
  obtain ⟨e0, e1⟩ := idx1 t
  rw [← V_main_arg1 m c]
  refine congrArg (Gen.V m c main_arg1 : Vec Ideal S32x32 .f32) (funext fun a => Fin.ext ?_)
  match a with
  | ⟨0, _⟩ => show win0_1.index t (0 : Fin 2) * 32 + 1 * (j 0).val = (j 0).val; omega
  | ⟨1, _⟩ => show win0_1.index t (1 : Fin 2) * 32 + 1 * (j 1).val = (j 1).val; omega

/-- Every tile sees the four codebooks whole. -/
theorem books_at (c : Dev nD) (t : Fin cfg0.N) (j : S4x8192x32.Idx) :
    (iblk m c 2 t : Vec Ideal S4x8192x32 .f32) j = (m ((c : Thread nD τ).loc main_arg2) : Vec Ideal S4x8192x32 .f32) j := by
  obtain ⟨e0, e1, e2⟩ := idx2 t
  rw [← V_main_arg2 m c]
  refine congrArg (Gen.V m c main_arg2 : Vec Ideal S4x8192x32 .f32) (funext fun a => Fin.ext ?_)
  match a with
  | ⟨0, _⟩ => show win0_2.index t (0 : Fin 3) * 4 + 1 * (j 0).val = (j 0).val; omega
  | ⟨1, _⟩ => show win0_2.index t (1 : Fin 3) * 8192 + 1 * (j 1).val = (j 1).val; omega
  | ⟨2, _⟩ => show win0_2.index t (2 : Fin 3) * 32 + 1 * (j 2).val = (j 2).val; omega

/-! ## The region's arrays, where both sides start from the same arguments -/

open Cert.ReferenceIdeal.Value (res_main_v2 res_main_v203 res_main_v228 res_main_v253 res_main_v278 res_main_v224 res_main_v249
  res_main_v274 res_main_v299)

variable (W : Valuation ReferenceIdeal.τ ReferenceIdeal.sig (Elt Ideal)) (c : Dev nD)
  (hx : W (Proc.devRef .tc ReferenceIdeal.main_arg0) = m ((c : Thread nD τ).loc main_arg0))
  (hrot : W (Proc.devRef .tc ReferenceIdeal.main_arg1) = m ((c : Thread nD τ).loc main_arg1))
  (hcb : W (Proc.devRef .tc ReferenceIdeal.main_arg2) = m ((c : Thread nD τ).loc main_arg2))

include hx hrot in
/-- A tile's rotated row is the reference's. -/
theorem rotated_at (t : Fin cfg0.N) (p : Fin 512) (d : Fin 32) :
    (rotate (F := Ideal) (iblk m c 0 t) (iblk m c 1 t)) (ix2 p d) = res_main_v2 W (ix2 (row t p) d) := by
  rw [rotate_at]
  simp only [rows_at, rotation_at]
  rw [V_main_v1 m c]
  unfold res_main_v2
  rw [hx, hrot]
  pointwise

include hcb in
/-- A tile's codebooks are the reference's. -/
theorem book0_eq (arg3 : Memref sig .tc .vmem S4x8192x32 .f32) (harg3 : arg3.IsWhole) (t : Fin cfg0.N) (k : Fin 8192) (d : Fin 32) :
    Tile.book0 arg3 harg3 (iblk m c 2 t) (ix2 k d) = res_main_v203 W (ix2 k d) := by
  rw [book0_at, books_at]
  unfold res_main_v203
  rw [hcb]
  pointwise

include hcb in
theorem book1_eq (arg3 : Memref sig .tc .vmem S4x8192x32 .f32) (harg3 : arg3.IsWhole) (t : Fin cfg0.N) (k : Fin 8192) (d : Fin 32) :
    Tile.book1 arg3 harg3 (iblk m c 2 t) (ix2 k d) = res_main_v228 W (ix2 k d) := by
  rw [book1_at, books_at]
  unfold res_main_v228
  rw [hcb]
  pointwise

include hcb in
theorem book2_eq (arg3 : Memref sig .tc .vmem S4x8192x32 .f32) (harg3 : arg3.IsWhole) (t : Fin cfg0.N) (k : Fin 8192) (d : Fin 32) :
    Tile.book2 arg3 harg3 (iblk m c 2 t) (ix2 k d) = res_main_v253 W (ix2 k d) := by
  rw [book2_at, books_at]
  unfold res_main_v253
  rw [hcb]
  pointwise

include hcb in
theorem book3_eq (arg3 : Memref sig .tc .vmem S4x8192x32 .f32) (harg3 : arg3.IsWhole) (t : Fin cfg0.N) (k : Fin 8192) (d : Fin 32) :
    Tile.book3 arg3 harg3 (iblk m c 2 t) (ix2 k d) = res_main_v278 W (ix2 k d) := by
  rw [book3_at, books_at]
  unfold res_main_v278
  rw [hcb]
  pointwise

/-- Four columns side by side. -/
def columns (f0 f1 f2 f3 : IVec ReferenceIdeal.S16384 32) : IVec S16384x4 32 := fun j =>
  (![f0, f1, f2, f3] : Fin 4 → IVec ReferenceIdeal.S16384 32) (j 1) (ix1 (j 0))

/-- A row that holds four entries is a row of the columns. -/
theorem columns_of (f0 f1 f2 f3 : IVec ReferenceIdeal.S16384 32) (f : IVec S512x4 32) (p : Fin 512) (n : Fin 16384)
    (h : f (ix2 p 0) = f0 (ix1 n) ∧ f (ix2 p 1) = f1 (ix1 n) ∧ f (ix2 p 2) = f2 (ix1 n) ∧ f (ix2 p 3) = f3 (ix1 n)) (q : Fin 4) :
    f (ix2 p q) = columns f0 f1 f2 f3 (ix2 n q) := by
  fin_cases q
  · exact h.1
  · exact h.2.1
  · exact h.2.2.1
  · exact h.2.2.2

/-- The four codes of every row. -/
def allCodes : IVec S16384x4 32 := columns (res_main_v224 W) (res_main_v249 W) (res_main_v274 W) (res_main_v299 W)

include hx hrot hcb in
/-- The kernel's array of sums. -/
theorem sums_eq : reg_main_v2_0 m c = Rows.sums W := by
  unfold reg_main_v2_0
  refine (Gen.dats m 0 c).arrAt_eq_of_covers 3 _ (by decide +kernel) fun t hf y => ?_
  blk_simp
  rw [after0_3]
  unfold outsAt0
  rw [out_total]
  obtain ⟨e0, e1⟩ := idx3 t
  have e : ((View.whole main_v2_0).slice (win0_3.rect t)).emb y = ix2 (row t (y 0)) (y 1) := by
    funext a; apply Fin.ext
    match a with
    | ⟨0, _⟩ => show win0_3.index t (0 : Fin 2) * 512 + 1 * (y 0).val = (grid0.coords t 0).val * 512 + (y 0).val; omega
    | ⟨1, _⟩ => show win0_3.index t (1 : Fin 2) * 32 + 1 * (y 1).val = (y 1).val; omega
  rw [e]
  have ey : y = ix2 (y 0) (y 1) := by funext a; match a with | ⟨0, _⟩ => rfl | ⟨1, _⟩ => rfl
  refine (congrArg _ ey).trans ?_
  exact Rows.total_at W (grid0.coords t) _ _ _ _ _ (y 0) (row t (y 0)) rfl (fun d => rotated_at m W c hx hrot t (y 0) d)
    (fun k d => book0_eq m W c hcb _ _ t k d) (fun k d => book1_eq m W c hcb _ _ t k d)
    (fun k d => book2_eq m W c hcb _ _ t k d) (fun k d => book3_eq m W c hcb _ _ t k d) (y 1)

include hx hrot hcb in
/-- The kernel's array of codes. -/
theorem codes_eq : reg_main_v2_1 m c = allCodes W := by
  unfold reg_main_v2_1
  refine (Gen.dats m 0 c).arrAt_eq_of_covers 4 _ (by decide +kernel) fun t hf y => ?_
  blk_simp
  rw [after0_4]
  unfold outsAt0
  rw [out_codes]
  obtain ⟨e0, e1⟩ := idx4 t
  have e : ((View.whole main_v2_1).slice (win0_4.rect t)).emb y = ix2 (row t (y 0)) (y 1) := by
    funext a; apply Fin.ext
    match a with
    | ⟨0, _⟩ => show win0_4.index t (0 : Fin 2) * 512 + 1 * (y 0).val = (grid0.coords t 0).val * 512 + (y 0).val; omega
    | ⟨1, _⟩ => show win0_4.index t (1 : Fin 2) * 4 + 1 * (y 1).val = (y 1).val; omega
  rw [e]
  have ey : y = ix2 (y 0) (y 1) := by funext a; match a with | ⟨0, _⟩ => rfl | ⟨1, _⟩ => rfl
  refine (congrArg _ ey).trans ?_
  exact columns_of _ _ _ _ _ (y 0) (row t (y 0)) (Rows.codes_at W (grid0.coords t) _ _ _ _ _ (y 0) (row t (y 0)) rfl
    (fun d => rotated_at m W c hx hrot t (y 0) d)
    (fun k d => book0_eq m W c hcb _ _ t k d) (fun k d => book1_eq m W c hcb _ _ t k d)
    (fun k d => book2_eq m W c hcb _ _ t k d) (fun k d => book3_eq m W c hcb _ _ t k d)) (y 1)

end Cert.KernelIdeal.Region

end
-- ==== Proof.Algebraic.lean ====
/- The kernel's three results are the reference's. -/
module

public import proofs.«01_k».proof.Proof.Region
public import proofs.«01_k».proof.Proof.Ref.Run
public import proofs.«01_k».proof.Defs

@[expose] public section

set_option maxRecDepth 16384

noncomputable section

namespace Cert.Proof

open Idealize.SL.Sem Idealize.ShloMosaic Idealize.ShloMosaic.StableHlo Idealize.ShloMosaic.TcCoe
open Cert.ReferenceIdeal Cert.ReferenceIdeal.Gen

/-- Four arrays stacked and added along the new axis. -/
theorem stack_sum (a b c d : FVec Ideal S16384x32 .f32) :
    Host.reduceAdd (concatenate S4x16384x32 0 [⟨S1x16384x32, broadcastInDim S1x16384x32 ![1, 2] bcast_S16384x32_S1x16384x32_1_2 a⟩,
        ⟨S1x16384x32, broadcastInDim S1x16384x32 ![1, 2] bcast_S16384x32_S1x16384x32_1_2 b⟩,
        ⟨S1x16384x32, broadcastInDim S1x16384x32 ![1, 2] bcast_S16384x32_S1x16384x32_1_2 c⟩,
        ⟨S1x16384x32, broadcastInDim S1x16384x32 ![1, 2] bcast_S16384x32_S1x16384x32_1_2 d⟩]
        concatenates_S1x16384x32_S1x16384x32_S1x16384x32_S1x16384x32_S4x16384x32_d0) (constant S_ .f32 0x00000000#32)
        reducesTo_S4x16384x32_S16384x32_d0 h_S_
      = addf (addf (addf a b) c) d := by
  funext j
  pointwise
  rw [Fin.sum_univ_four]
  rfl

section Columns

variable (f0 f1 f2 f3 : IVec S16384 32)

theorem columns_0 (n : Fin 16384) (q : Fin 4) (h : q.val = 0) : KernelIdeal.Region.columns f0 f1 f2 f3 (ix2 n q) = f0 (ix1 n) := by
  obtain rfl : q = 0 := Fin.ext h
  rfl
theorem columns_1 (n : Fin 16384) (q : Fin 4) (h : q.val = 1) : KernelIdeal.Region.columns f0 f1 f2 f3 (ix2 n q) = f1 (ix1 n) := by
  obtain rfl : q = 1 := Fin.ext h
  rfl
theorem columns_2 (n : Fin 16384) (q : Fin 4) (h : q.val = 2) : KernelIdeal.Region.columns f0 f1 f2 f3 (ix2 n q) = f2 (ix1 n) := by
  obtain rfl : q = 2 := Fin.ext h
  rfl
theorem columns_3 (n : Fin 16384) (q : Fin 4) (h : q.val = 3) : KernelIdeal.Region.columns f0 f1 f2 f3 (ix2 n q) = f3 (ix1 n) := by
  obtain rfl : q = 3 := Fin.ext h
  rfl

/-- Four columns, transposed, are the four rows one below the other. -/
theorem columns_transpose :
    transpose S4x16384 [1, 0] (KernelIdeal.Region.columns f0 f1 f2 f3) KernelIdeal.Facts₀.transposes_S16384x4_S4x16384_1_0
      = concatenate S4x16384 0 [⟨S1x16384, broadcastInDim S1x16384 ![1] bcast_S16384_S1x16384_1 f0⟩,
        ⟨S1x16384, broadcastInDim S1x16384 ![1] bcast_S16384_S1x16384_1 f1⟩,
        ⟨S1x16384, broadcastInDim S1x16384 ![1] bcast_S16384_S1x16384_1 f2⟩,
        ⟨S1x16384, broadcastInDim S1x16384 ![1] bcast_S16384_S1x16384_1 f3⟩]
        concatenates_S1x16384_S1x16384_S1x16384_S1x16384_S4x16384_d0 := by
  funext j
  pointwise
  have h4 : (j 0).val < 4 := (j 0).isLt
  split_ifs
  · exact columns_0 _ _ _ _ _ _ (by omega)
  · exact columns_1 _ _ _ _ _ _ (by omega)
  · exact columns_2 _ _ _ _ _ _ (by omega)
  · exact columns_3 _ _ _ _ _ _ (by omega)

/-- The same as one row after the other. -/
theorem columns_flat :
    shapeCast S65536 (transpose S4x16384 [1, 0] (KernelIdeal.Region.columns f0 f1 f2 f3) KernelIdeal.Facts₀.transposes_S16384x4_S4x16384_1_0)
        KernelIdeal.Facts₀.shapeCasts_S4x16384_S65536
      = concatenate S65536 0 [⟨S16384, f0⟩, ⟨S16384, f1⟩, ⟨S16384, f2⟩, ⟨S16384, f3⟩]
        concatenates_S16384_S16384_S16384_S16384_S65536_d0 := by
  funext j
  pointwise
  have hj : (j 0).val < 65536 := (j 0).isLt
  by_cases h0 : (j 0).val < 16384
  · rw [dif_pos h0]
    exact (columns_0 _ _ _ _ _ _ (by show (j 0).val / 16384 = 0; omega)).trans
      (congrArg f0 (congrArg ix1 (Fin.ext (by show (j 0).val % 16384 = (j 0).val; omega))))
  rw [dif_neg h0]
  by_cases h1 : (j 0).val - 16384 < 16384
  · rw [dif_pos h1]
    exact (columns_1 _ _ _ _ _ _ (by show (j 0).val / 16384 = 1; omega)).trans
      (congrArg f1 (congrArg ix1 (Fin.ext (by show (j 0).val % 16384 = (j 0).val - 16384; omega))))
  rw [dif_neg h1]
  by_cases h2 : (j 0).val - 16384 - 16384 < 16384
  · rw [dif_pos h2]
    exact (columns_2 _ _ _ _ _ _ (by show (j 0).val / 16384 = 2; omega)).trans
      (congrArg f2 (congrArg ix1 (Fin.ext (by show (j 0).val % 16384 = (j 0).val - 16384 - 16384; omega))))
  · rw [dif_neg h2]
    exact (columns_3 _ _ _ _ _ _ (by show (j 0).val / 16384 = 3; omega)).trans
      (congrArg f3 (congrArg ix1 (Fin.ext (by show (j 0).val % 16384 = (j 0).val - 16384 - 16384 - 16384; omega))))

end Columns

open Cert.ReferenceIdeal.Value

section Results

variable (W : Valuation τ sig (Elt Ideal))

/-- The reference's sum of code vectors, as rows. -/
theorem v308_eq : res_main_v308 W = shapeCast S16x32x32x32 (Rows.sums W) shapeCasts_S16384x32_S16x32x32x32 := by
  unfold res_main_v308 Rows.sums
  exact congrArg (fun z => shapeCast S16x32x32x32 z shapeCasts_S16384x32_S16x32x32x32) (stack_sum _ _ _ _)

/-- The reference's mean code, from the codes of every row. -/
theorem v321_eq : (res_main_v321 W : FVec Ideal S_ .f32)
    = Host.divf (F := Ideal) (Host.reduceAdd (sitofp .f32 (shapeCast S65536 (transpose S4x16384 [1, 0] (KernelIdeal.Region.allCodes W)
          KernelIdeal.Facts₀.transposes_S16384x4_S4x16384_1_0) KernelIdeal.Facts₀.shapeCasts_S4x16384_S65536))
        (constant S_ .f32 0x00000000#32) reducesTo_S65536_S_d0 h_S_) (constant S_ .f32 0x47800000#32) := by
  unfold KernelIdeal.Region.allCodes
  rw [columns_flat]
  unfold res_main_v321
  rfl

end Results

/-- From the same arguments the kernel and the reference end with the same three results. -/
theorem algebraic : Cert.algebraic_KernelIdeal_ReferenceIdeal := by
  intro m ρ m' ρ' _ hagree
  have hs : ∀ c : Dev KernelIdeal.nD, KernelIdeal.Value.reg_main_v2_0 m c = Rows.sums (launchContents m' c) := fun c =>
    KernelIdeal.Region.sums_eq m (launchContents m' c) c (hagree c).1 (hagree c).2.1 (hagree c).2.2
  have hc : ∀ c : Dev KernelIdeal.nD, KernelIdeal.Value.reg_main_v2_1 m c = KernelIdeal.Region.allCodes (launchContents m' c) := fun c =>
    KernelIdeal.Region.codes_eq m (launchContents m' c) c (hagree c).1 (hagree c).2.1 (hagree c).2.2
  refine ⟨_, _, _, KernelIdeal.Value.run m ρ, (θ_run _ _ _).mono (fun r h c => ?_) (ReferenceIdeal.Value.run m' ρ')⟩
  obtain ⟨h1, h2, h3, h4⟩ := h c
  refine ⟨h1.trans ?_, h2.trans ?_, h3.trans ?_, h4⟩
  · rw [hs c, v308_eq]
    rw [show launchContents m' c (Proc.devRef .tc main_arg0) = _ from (hagree c).1]
    rfl
  · rw [hs c, hc c]
    unfold res_main_v309 res_main_v314
    rw [v308_eq, v321_eq, show launchContents m' c (Proc.devRef .tc main_arg0) = _ from (hagree c).1]
  · rw [hc c]
    unfold KernelIdeal.Region.allCodes
    rw [columns_transpose]

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
